-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "two_pi_over_s" .f32 0x3B490FDB#32 ((Real.pi * 1024⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x12x2048x64 : Shape := ⟨4, ![1, 12, 2048, 64]⟩
abbrev S_ : Shape := ⟨0, ![]⟩
abbrev S1x12x64x64 : Shape := ⟨4, ![1, 12, 64, 64]⟩

class Facts : Prop where
  bcast_S_S1x12x2048x64 : S_.BroadcastsInDim S1x12x2048x64 (![] : Fin 0 → Fin S1x12x2048x64.rank)
  reducesTo_S1x12x2048x64_S_d0_1_2_3 : S1x12x2048x64.ReducesTo [0, 1, 2, 3] S_
  h_S_ : 0 < S_.numel
  slices_S1x12x2048x64_S1x12x64x64_0_0_0_0 : S1x12x2048x64.Slices ![0, 0, 0, 0] S1x12x64x64
  bcast_S_S1x12x64x64 : S_.BroadcastsInDim S1x12x64x64 (![] : Fin 0 → Fin S1x12x64x64.rank)
  reducesTo_S1x12x64x64_S_d0_1_2_3 : S1x12x64x64.ReducesTo [0, 1, 2, 3] S_

variable [Facts]

def fn {F : FTy → Type} [FloatOps F] (main_arg0 : FVec F S1x12x2048x64 .f32) (main_arg1 : FVec F S1x12x2048x64 .f32) (main_arg2 : FVec F S1x12x2048x64 .f32) : IVec S_ 1 :=
  let main_v0 : FVec F S1x12x2048x64 .f32 := Host.absf main_arg0
  let main_cst : FVec F S_ .f32 := constant S_ .f32 0x7F800000#32
  let main_v1 : FVec F S1x12x2048x64 .f32 := broadcastInDim S1x12x2048x64 ![] bcast_S_S1x12x2048x64 main_cst
  let main_v2 : IVec S1x12x2048x64 1 := cmpf .olt main_v0 main_v1
  let main_c : IVec S_ 1 := constantI S_ 1 1#1
  let main_v3 : IVec S_ 1 := (fun x v => Host.reduce IntOp.andi x v reducesTo_S1x12x2048x64_S_d0_1_2_3 h_S_) main_v2 main_c
  let main_v4 : FVec F S1x12x2048x64 .f32 := Host.absf main_arg1
  let main_cst_0 : FVec F S_ .f32 := constant S_ .f32 0x7F800000#32
  let main_v5 : FVec F S1x12x2048x64 .f32 := broadcastInDim S1x12x2048x64 ![] bcast_S_S1x12x2048x64 main_cst_0
  let main_v6 : IVec S1x12x2048x64 1 := cmpf .olt main_v4 main_v5
  let main_c_1 : IVec S_ 1 := constantI S_ 1 1#1
  let main_v7 : IVec S_ 1 := (fun x v => Host.reduce IntOp.andi x v reducesTo_S1x12x2048x64_S_d0_1_2_3 h_S_) main_v6 main_c_1
  let main_v8 : IVec S_ 1 := andi main_v3 main_v7
  let main_v9 : FVec F S1x12x64x64 .f32 := (extractStridedSlice S1x12x64x64 ![0, 0, 0, 0] · slices_S1x12x2048x64_S1x12x64x64_0_0_0_0) main_arg2
  let main_v10 : FVec F S1x12x64x64 .f32 := Host.absf main_v9
  let main_cst_2 : FVec F S_ .f32 := constant S_ .f32 0x7F800000#32
  let main_v11 : FVec F S1x12x64x64 .f32 := broadcastInDim S1x12x64x64 ![] bcast_S_S1x12x64x64 main_cst_2
  let main_v12 : IVec S1x12x64x64 1 := cmpf .olt main_v10 main_v11
  let main_c_3 : IVec S_ 1 := constantI S_ 1 1#1
  let main_v13 : IVec S_ 1 := (fun x v => Host.reduce IntOp.andi x v reducesTo_S1x12x64x64_S_d0_1_2_3 h_S_) main_v12 main_c_3
  let main_v14 : IVec S_ 1 := andi main_v8 main_v13
  main_v14
-- ==== Kernel.lean ====
abbrev S1x12x2048x64 : Shape := ⟨4, ![1, 12, 2048, 64]⟩
abbrev S12x2048x64 : Shape := ⟨3, ![12, 2048, 64]⟩
abbrev S2048x12x64 : Shape := ⟨3, ![2048, 12, 64]⟩
abbrev S2048x768 : Shape := ⟨2, ![2048, 768]⟩
abbrev S1x12x64x64 : Shape := ⟨4, ![1, 12, 64, 64]⟩
abbrev S12x64x64 : Shape := ⟨3, ![12, 64, 64]⟩
abbrev S2048x256 : Shape := ⟨2, ![2048, 256]⟩
abbrev S4x64x64 : Shape := ⟨3, ![4, 64, 64]⟩
abbrev S1024x2048 : Shape := ⟨2, ![1024, 2048]⟩
abbrev S1024x256 : Shape := ⟨2, ![1024, 256]⟩
abbrev S256x2048 : Shape := ⟨2, ![256, 2048]⟩
abbrev S1x2048 : Shape := ⟨2, ![1, 2048]⟩
abbrev S2048x1 : Shape := ⟨2, ![2048, 1]⟩
abbrev S256 : Shape := ⟨1, ![256]⟩
abbrev S1x256 : Shape := ⟨2, ![1, 256]⟩
abbrev S256x256 : Shape := ⟨2, ![256, 256]⟩
abbrev S256x1 : Shape := ⟨2, ![256, 1]⟩
abbrev S1x2x1024x256 : Shape := ⟨4, ![1, 2, 1024, 256]⟩
abbrev S1x1x1024x256 : Shape := ⟨4, ![1, 1, 1024, 256]⟩
abbrev S1x1024x256 : Shape := ⟨3, ![1, 1024, 256]⟩
abbrev S1x1x1 : Shape := ⟨3, ![1, 1, 1]⟩
abbrev S2x2x512x256 : Shape := ⟨4, ![2, 2, 512, 256]⟩
abbrev S2x1x512x256 : Shape := ⟨4, ![2, 1, 512, 256]⟩
abbrev S2x512x256 : Shape := ⟨3, ![2, 512, 256]⟩
abbrev S2x1x1 : Shape := ⟨3, ![2, 1, 1]⟩
abbrev S4x2x256x256 : Shape := ⟨4, ![4, 2, 256, 256]⟩
abbrev S4x1x256x256 : Shape := ⟨4, ![4, 1, 256, 256]⟩
abbrev S4x256x256 : Shape := ⟨3, ![4, 256, 256]⟩
abbrev S4x1x1 : Shape := ⟨3, ![4, 1, 1]⟩
abbrev S8x2x128x256 : Shape := ⟨4, ![8, 2, 128, 256]⟩
abbrev S8x1x128x256 : Shape := ⟨4, ![8, 1, 128, 256]⟩
abbrev S8x128x256 : Shape := ⟨3, ![8, 128, 256]⟩
abbrev S8x1x1 : Shape := ⟨3, ![8, 1, 1]⟩
abbrev S16x2x64x256 : Shape := ⟨4, ![16, 2, 64, 256]⟩
abbrev S16x1x64x256 : Shape := ⟨4, ![16, 1, 64, 256]⟩
abbrev S16x64x256 : Shape := ⟨3, ![16, 64, 256]⟩
abbrev S16x1x1 : Shape := ⟨3, ![16, 1, 1]⟩
abbrev S32x2x32x256 : Shape := ⟨4, ![32, 2, 32, 256]⟩
abbrev S32x1x32x256 : Shape := ⟨4, ![32, 1, 32, 256]⟩
abbrev S32x32x256 : Shape := ⟨3, ![32, 32, 256]⟩
abbrev S32x1x1 : Shape := ⟨3, ![32, 1, 1]⟩
abbrev S64x2x16x256 : Shape := ⟨4, ![64, 2, 16, 256]⟩
abbrev S64x1x16x256 : Shape := ⟨4, ![64, 1, 16, 256]⟩
abbrev S64x16x256 : Shape := ⟨3, ![64, 16, 256]⟩
abbrev S64x1x1 : Shape := ⟨3, ![64, 1, 1]⟩
abbrev S128x2x8x256 : Shape := ⟨4, ![128, 2, 8, 256]⟩
abbrev S128x1x8x256 : Shape := ⟨4, ![128, 1, 8, 256]⟩
abbrev S128x8x256 : Shape := ⟨3, ![128, 8, 256]⟩
abbrev S128x1x1 : Shape := ⟨3, ![128, 1, 1]⟩
abbrev S4x256 : Shape := ⟨2, ![4, 256]⟩
abbrev S2044x256 : Shape := ⟨2, ![2044, 256]⟩
abbrev S2x256 : Shape := ⟨2, ![2, 256]⟩
abbrev S2046x256 : Shape := ⟨2, ![2046, 256]⟩
abbrev S2047x256 : Shape := ⟨2, ![2047, 256]⟩
abbrev S1x64x64 : Shape := ⟨3, ![1, 64, 64]⟩
abbrev S64x64 : Shape := ⟨2, ![64, 64]⟩
abbrev S2048x64 : Shape := ⟨2, ![2048, 64]⟩

abbrev nBuf : Space → Nat
  | .hbm => 15
  | .vmem => 18
  | .smem => 0
  | _ => 0

abbrev bufTy : (tb : Table) → Fin (tcTables nBuf tb) → BufTy
  | .hbm, ⟨0, _⟩ => ⟨S1x12x2048x64, .f32⟩
  | .hbm, ⟨1, _⟩ => ⟨S1x12x2048x64, .f32⟩
  | .hbm, ⟨2, _⟩ => ⟨S1x12x2048x64, .f32⟩
  | .hbm, ⟨3, _⟩ => ⟨S12x2048x64, .f32⟩
  | .hbm, ⟨4, _⟩ => ⟨S2048x12x64, .f32⟩
  | .hbm, ⟨5, _⟩ => ⟨S2048x768, .f32⟩
  | .hbm, ⟨6, _⟩ => ⟨S12x2048x64, .f32⟩
  | .hbm, ⟨7, _⟩ => ⟨S2048x12x64, .f32⟩
  | .hbm, ⟨8, _⟩ => ⟨S2048x768, .f32⟩
  | .hbm, ⟨9, _⟩ => ⟨S1x12x64x64, .f32⟩
  | .hbm, ⟨10, _⟩ => ⟨S12x64x64, .f32⟩
  | .hbm, ⟨11, _⟩ => ⟨S2048x768, .f32⟩
  | .hbm, ⟨12, _⟩ => ⟨S2048x12x64, .f32⟩
  | .hbm, ⟨13, _⟩ => ⟨S12x2048x64, .f32⟩
  | .hbm, ⟨14, _⟩ => ⟨S1x12x2048x64, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S4x64x64, .f32⟩
  | .local _ .vmem, ⟨5, _⟩ => ⟨S4x64x64, .f32⟩
  | .local _ .vmem, ⟨6, _⟩ => ⟨S2048x256, .f32⟩
  | .local _ .vmem, ⟨7, _⟩ => ⟨S2048x256, .f32⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1024x2048, .bf16⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S2048x256, .f32⟩
  | .local _ .vmem, ⟨17, _⟩ => ⟨S2048x256, .bf16⟩
  | _, _ => ⟨S1x12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scratch9 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![3], ![false]⟩

@[reducible] def k0_t1_loop : Scf.Loop 32 :=
  let c0_i32_8 : BitVec 32 := 0#32
  let c4_i32 : BitVec 32 := 4#32
  let v24 : BitVec 32 := Scalar.addi c0_i32_8 c4_i32
  let c1_i32_9 : BitVec 32 := 1#32
  ⟨c0_i32_8, v24, c1_i32_9⟩
def k0_off1 (k0_t1 : Fin k0_t1_loop.trips) : Fin 2 → Nat :=
  let c0_i32_8 : BitVec 32 := 0#32
  let c1_i32_9 : BitVec 32 := 1#32
  let arg15 : BitVec 32 := Scf.iv c0_i32_8 c1_i32_9 k0_t1
  let c256_i32 : BitVec 32 := 256#32
  let v106 : BitVec 32 := Scalar.muli arg15 c256_i32
  let v107 : Index := Scalar.indexCast v106
  let c0_49 : Index := 0#32
  ![v107.toNat, 0]
def k0_off2 (k0_t1 : Fin k0_t1_loop.trips) : Fin 2 → Nat :=
  let c0_i32_8 : BitVec 32 := 0#32
  let c1_i32_9 : BitVec 32 := 1#32
  let arg15 : BitVec 32 := Scf.iv c0_i32_8 c1_i32_9 k0_t1
  let c256_i32 : BitVec 32 := 256#32
  let v106 : BitVec 32 := Scalar.muli arg15 c256_i32
  let v161 : Index := Scalar.indexCast v106
  let c0_69 : Index := 0#32
  ![v161.toNat, 0]
@[reducible] def k0_t2_loop : Scf.Loop 32 :=
  let c0_i32_19 : BitVec 32 := 0#32
  let c8_i32 : BitVec 32 := 8#32
  let v38 : BitVec 32 := Scalar.addi c0_i32_19 c8_i32
  let c1_i32_20 : BitVec 32 := 1#32
  ⟨c0_i32_19, v38, c1_i32_20⟩
def k0_off3 (k0_t2 : Fin k0_t2_loop.trips) : Fin 2 → Nat :=
  let c0_49 : Index := 0#32
  let c0_i32_19 : BitVec 32 := 0#32
  let c1_i32_20 : BitVec 32 := 1#32
  let arg15 : BitVec 32 := Scf.iv c0_i32_19 c1_i32_20 k0_t2
  let c256_i32 : BitVec 32 := 256#32
  let v106 : BitVec 32 := Scalar.muli arg15 c256_i32
  let v107 : Index := Scalar.indexCast v106
  ![0, v107.toNat]
def k0_off4 (k0_t2 : Fin k0_t2_loop.trips) : Fin 2 → Nat :=
  let c0_i32_19 : BitVec 32 := 0#32
  let c1_i32_20 : BitVec 32 := 1#32
  let arg15 : BitVec 32 := Scf.iv c0_i32_19 c1_i32_20 k0_t2
  let c256_i32 : BitVec 32 := 256#32
  let v106 : BitVec 32 := Scalar.muli arg15 c256_i32
  let v140 : Index := Scalar.indexCast v106
  let c0_69 : Index := 0#32
  ![v140.toNat, 0]
@[reducible] def k0_t3_loop : Scf.Loop 32 :=
  let c1_i32_28 : BitVec 32 := 1#32
  let c11_i32 : BitVec 32 := 11#32
  let v54 : BitVec 32 := Scalar.addi c1_i32_28 c11_i32
  let c1_i32_29 : BitVec 32 := 1#32
  ⟨c1_i32_28, v54, c1_i32_29⟩
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "two_pi_over_s" => some ((Real.pi * 1024⁻¹ : ℝ) : EReal)
  | _ => none
-- ==== ReferenceIdeal.lean ====
abbrev S1x12x2048x64 : Shape := ⟨4, ![1, 12, 2048, 64]⟩
abbrev S1025x2048 : Shape := ⟨2, ![1025, 2048]⟩
abbrev S_ : Shape := ⟨0, ![]⟩
abbrev S1x12x64x1025 : Shape := ⟨4, ![1, 12, 64, 1025]⟩
abbrev S1x12x1025x64 : Shape := ⟨4, ![1, 12, 1025, 64]⟩
abbrev S1025x1 : Shape := ⟨2, ![1025, 1]⟩
abbrev S1x1x1025x1 : Shape := ⟨4, ![1, 1, 1025, 1]⟩
abbrev S1x12x64x2048 : Shape := ⟨4, ![1, 12, 64, 2048]⟩
abbrev S1x12x64 : Shape := ⟨3, ![1, 12, 64]⟩
abbrev S1x12x1x64 : Shape := ⟨4, ![1, 12, 1, 64]⟩
abbrev S1x12x64x64 : Shape := ⟨4, ![1, 12, 64, 64]⟩
abbrev S1x12x1x64x64 : Shape := ⟨5, ![1, 12, 1, 64, 64]⟩
abbrev S1x12x2048x64x64 : Shape := ⟨5, ![1, 12, 2048, 64, 64]⟩
abbrev S1x12x2048x64x1 : Shape := ⟨5, ![1, 12, 2048, 64, 1]⟩
abbrev S12x2048x64x1 : Shape := ⟨4, ![12, 2048, 64, 1]⟩
abbrev S1 : Shape := ⟨1, ![1]⟩
abbrev S1x1x1x1 : Shape := ⟨4, ![1, 1, 1, 1]⟩
abbrev S12x2048x64 : Shape := ⟨3, ![12, 2048, 64]⟩

abbrev nBuf : Space → Nat
  | .hbm => 111
  | .vmem => 0
  | .smem => 0
  | _ => 0

abbrev bufTy : (tb : Table) → Fin (tcTables nBuf tb) → BufTy
  | .hbm, ⟨0, _⟩ => ⟨S1x12x2048x64, .f32⟩
  | .hbm, ⟨1, _⟩ => ⟨S1x12x2048x64, .f32⟩
  | .hbm, ⟨2, _⟩ => ⟨S1x12x2048x64, .f32⟩
  | .hbm, ⟨3, _⟩ => ⟨S1025x2048, .i32⟩
  | .hbm, ⟨4, _⟩ => ⟨S1025x2048, .i32⟩
  | .hbm, ⟨5, _⟩ => ⟨S_, .f32⟩
  | .hbm, ⟨6, _⟩ => ⟨S_, .f32⟩
  | .hbm, ⟨7, _⟩ => ⟨S1025x2048, .i32⟩
  | .hbm, ⟨8, _⟩ => ⟨S1025x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1025x2048, .f32⟩
  | .hbm, ⟨14, _⟩ => ⟨S1025x2048, .f32⟩
  | .hbm, ⟨15, _⟩ => ⟨S1025x2048, .f32⟩
  | .hbm, ⟨16, _⟩ => ⟨S1025x2048, .f32⟩
  | .hbm, ⟨17, _⟩ => ⟨S1x12x64x1025, .f32⟩
  | .hbm, ⟨18, _⟩ => ⟨S1x12x1025x64, .f32⟩
  | .hbm, ⟨19, _⟩ => ⟨S1x12x64x1025, .f32⟩
  | .hbm, ⟨20, _⟩ => ⟨S1x12x1025x64, .f32⟩
  | .hbm, ⟨21, _⟩ => ⟨S1x12x1025x64, .f32⟩
  | .hbm, ⟨22, _⟩ => ⟨S1x12x64x1025, .f32⟩
  | .hbm, ⟨23, _⟩ => ⟨S1x12x1025x64, .f32⟩
  | .hbm, ⟨24, _⟩ => ⟨S1x12x64x1025, .f32⟩
  | .hbm, ⟨25, _⟩ => ⟨S1x12x1025x64, .f32⟩
  | .hbm, ⟨26, _⟩ => ⟨S1x12x1025x64, .f32⟩
  | .hbm, ⟨27, _⟩ => ⟨S1x12x1025x64, .f32⟩
  | .hbm, ⟨28, _⟩ => ⟨S1x12x1025x64, .f32⟩
  | .hbm, ⟨29, _⟩ => ⟨S1x12x1025x64, .f32⟩
  | .hbm, ⟨30, _⟩ => ⟨S1x12x1025x64, .f32⟩
  | .hbm, ⟨31, _⟩ => ⟨S1x12x1025x64, .f32⟩
  | .hbm, ⟨32, _⟩ => ⟨S1x12x1025x64, .f32⟩
  | .hbm, ⟨33, _⟩ => ⟨S1025x1, .i32⟩
  | .hbm, ⟨34, _⟩ => ⟨S_, .i32⟩
  | .hbm, ⟨35, _⟩ => ⟨S1025x1, .i32⟩
  | .hbm, ⟨36, _⟩ => ⟨S1025x1, .i1⟩
  | .hbm, ⟨37, _⟩ => ⟨S_, .i32⟩
  | .hbm, ⟨38, _⟩ => ⟨S1025x1, .i32⟩
  | .hbm, ⟨39, _⟩ => ⟨S1025x1, .i1⟩
  | .hbm, ⟨40, _⟩ => ⟨S1025x1, .i1⟩
  | .hbm, ⟨41, _⟩ => ⟨S_, .f32⟩
  | .hbm, ⟨42, _⟩ => ⟨S_, .f32⟩
  | .hbm, ⟨43, _⟩ => ⟨S1025x1, .f32⟩
  | .hbm, ⟨44, _⟩ => ⟨S1025x1, .f32⟩
  | .hbm, ⟨45, _⟩ => ⟨S1025x1, .f32⟩
  | .hbm, ⟨46, _⟩ => ⟨S1x1x1025x1, .f32⟩
  | .hbm, ⟨47, _⟩ => ⟨S1x12x1025x64, .f32⟩
  | .hbm, ⟨48, _⟩ => ⟨S1x12x1025x64, .f32⟩
  | .hbm, ⟨49, _⟩ => ⟨S1x12x64x2048, .f32⟩
  | .hbm, ⟨50, _⟩ => ⟨S1x12x2048x64, .f32⟩
  | .hbm, ⟨51, _⟩ => ⟨S1x1x1025x1, .f32⟩
  | .hbm, ⟨52, _⟩ => ⟨S1x12x1025x64, .f32⟩
  | .hbm, ⟨53, _⟩ => ⟨S1x12x1025x64, .f32⟩
  | .hbm, ⟨54, _⟩ => ⟨S1x12x64x2048, .f32⟩
  | .hbm, ⟨55, _⟩ => ⟨S1x12x2048x64, .f32⟩
  | .hbm, ⟨56, _⟩ => ⟨S1x12x2048x64, .f32⟩
  | .hbm, ⟨57, _⟩ => ⟨S_, .f32⟩
  | .hbm, ⟨58, _⟩ => ⟨S1x12x2048x64, .f32⟩
  | .hbm, ⟨59, _⟩ => ⟨S1x12x2048x64, .f32⟩
  | .hbm, ⟨60, _⟩ => ⟨S1x12x64x2048, .f32⟩
  | .hbm, ⟨61, _⟩ => ⟨S1x12x64x2048, .f32⟩
  | .hbm, ⟨62, _⟩ => ⟨S1x12x64x2048, .i32⟩
  | .hbm, ⟨63, _⟩ => ⟨S1x12x2048x64, .f32⟩
  | .hbm, ⟨64, _⟩ => ⟨S1x12x2048x64, .i32⟩
  | .hbm, ⟨65, _⟩ => ⟨S_, .f32⟩
  | .hbm, ⟨66, _⟩ => ⟨S1x12x64, .f32⟩
  | .hbm, ⟨67, _⟩ => ⟨S_, .f32⟩
  | .hbm, ⟨68, _⟩ => ⟨S1x12x64, .f32⟩
  | .hbm, ⟨69, _⟩ => ⟨S1x12x64, .f32⟩
  | .hbm, ⟨70, _⟩ => ⟨S1x12x1x64, .f32⟩
  | .hbm, ⟨71, _⟩ => ⟨S1x12x2048x64, .f32⟩
  | .hbm, ⟨72, _⟩ => ⟨S1x12x2048x64, .f32⟩
  | .hbm, ⟨73, _⟩ => ⟨S1x12x2048x64, .f32⟩
  | .hbm, ⟨74, _⟩ => ⟨S_, .f32⟩
  | .hbm, ⟨75, _⟩ => ⟨S1x12x64, .f32⟩
  | .hbm, ⟨76, _⟩ => ⟨S1x12x1x64, .f32⟩
  | .hbm, ⟨77, _⟩ => ⟨S1x12x2048x64, .f32⟩
  | .hbm, ⟨78, _⟩ => ⟨S1x12x2048x64, .f32⟩
  | .hbm, ⟨79, _⟩ => ⟨S1x12x64x64, .f32⟩
  | .hbm, ⟨80, _⟩ => ⟨S1x12x1x64x64, .f32⟩
  | .hbm, ⟨81, _⟩ => ⟨S1x12x2048x64x64, .f32⟩
  | .hbm, ⟨82, _⟩ => ⟨S1x12x2048x64x1, .i32⟩
  | .hbm, ⟨83, _⟩ => ⟨S_, .i32⟩
  | .hbm, ⟨84, _⟩ => ⟨S1x12x2048x64x1, .i32⟩
  | .hbm, ⟨85, _⟩ => ⟨S1x12x2048x64x1, .i1⟩
  | .hbm, ⟨86, _⟩ => ⟨S_, .i32⟩
  | .hbm, ⟨87, _⟩ => ⟨S1x12x2048x64x1, .i32⟩
  | .hbm, ⟨88, _⟩ => ⟨S1x12x2048x64x1, .i32⟩
  | .hbm, ⟨89, _⟩ => ⟨S1x12x2048x64x1, .i32⟩
  | .hbm, ⟨90, _⟩ => ⟨S12x2048x64x1, .i32⟩
  | .hbm, ⟨91, _⟩ => ⟨S1, .i32⟩
  | .hbm, ⟨92, _⟩ => ⟨S_, .i32⟩
  | .hbm, ⟨93, _⟩ => ⟨S12x2048x64x1, .i32⟩
  | .hbm, ⟨94, _⟩ => ⟨S12x2048x64x1, .i1⟩
  | .hbm, ⟨95, _⟩ => ⟨S1x1x1x1, .i32⟩
  | .hbm, ⟨96, _⟩ => ⟨S12x2048x64x1, .i32⟩
  | .hbm, ⟨97, _⟩ => ⟨S12x2048x64x1, .i1⟩
  | .hbm, ⟨98, _⟩ => ⟨S12x2048x64x1, .i1⟩
  | .hbm, ⟨99, _⟩ => ⟨S_, .i1⟩
  | .hbm, ⟨100, _⟩ => ⟨S12x2048x64, .i1⟩
  | .hbm, ⟨101, _⟩ => ⟨S1x12x2048x64x64, .f32⟩
  | .hbm, ⟨102, _⟩ => ⟨S1x12x2048x64x64, .i1⟩
  | .hbm, ⟨103, _⟩ => ⟨S_, .f32⟩
  | .hbm, ⟨104, _⟩ => ⟨S1x12x2048x64x64, .f32⟩
  | .hbm, ⟨105, _⟩ => ⟨S1x12x2048x64x64, .f32⟩
  | .hbm, ⟨106, _⟩ => ⟨S1x12x2048x64x1, .f32⟩
  | .hbm, ⟨107, _⟩ => ⟨S1x12x2048x64x64, .f32⟩
  | .hbm, ⟨108, _⟩ => ⟨S1x12x2048x64x64, .f32⟩
  | .hbm, ⟨109, _⟩ => ⟨S_, .f32⟩
  | .hbm, ⟨110, _⟩ => ⟨S1x12x2048x64, .f32⟩
  | _, _ => ⟨S1x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c : Ref sig .tc := ⟨.hbm, 34, rfl⟩
abbrev main_v28 : Ref sig .tc := ⟨.hbm, 35, rfl⟩
abbrev main_v29 : Ref sig .tc := ⟨.hbm, 36, rfl⟩
abbrev main_c_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_cst_4 : Ref sig .tc := ⟨.hbm, 42, rfl⟩
abbrev main_call0_v0 : Ref sig .tc := ⟨.hbm, 43, rfl⟩
abbrev main_call0_v1 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_5 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_values : Ref sig .tc := ⟨.hbm, 61, rfl⟩
abbrev main_indices : Ref sig .tc := ⟨.hbm, 62, rfl⟩
abbrev main_v48 : Ref sig .tc := ⟨.hbm, 63, rfl⟩
abbrev main_v49 : Ref sig .tc := ⟨.hbm, 64, rfl⟩
abbrev main_cst_6 : Ref sig .tc := ⟨.hbm, 65, rfl⟩
abbrev main_v50 : Ref sig .tc := ⟨.hbm, 66, rfl⟩
abbrev main_cst_7 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_8 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_call1_c : Ref sig .tc := ⟨.hbm, 83, rfl⟩
abbrev main_call1_v0 : Ref sig .tc := ⟨.hbm, 84, rfl⟩
abbrev main_call1_v1 : Ref sig .tc := ⟨.hbm, 85, rfl⟩
abbrev main_call1_c_0 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_v5 : Ref sig .tc := ⟨.hbm, 90, rfl⟩
abbrev main_call1_c_1 : Ref sig .tc := ⟨.hbm, 91, rfl⟩
abbrev main_call1_c_2 : Ref sig .tc := ⟨.hbm, 92, rfl⟩
abbrev main_call1_v6 : Ref sig .tc := ⟨.hbm, 93, rfl⟩
abbrev main_call1_v7 : Ref sig .tc := ⟨.hbm, 94, rfl⟩
abbrev main_call1_v8 : Ref sig .tc := ⟨.hbm, 95, rfl⟩
abbrev main_call1_v9 : Ref sig .tc := ⟨.hbm, 96, rfl⟩
abbrev main_call1_v10 : Ref sig .tc := ⟨.hbm, 97, rfl⟩
abbrev main_call1_v11 : Ref sig .tc := ⟨.hbm, 98, rfl⟩
abbrev main_call1_c_3 : Ref sig .tc := ⟨.hbm, 99, rfl⟩
abbrev main_call1_v12 : Ref sig .tc := ⟨.hbm, 100, rfl⟩
abbrev main_call1_v13 : Ref sig .tc := ⟨.hbm, 101, rfl⟩
abbrev main_call1_v14 : Ref sig .tc := ⟨.hbm, 102, rfl⟩
abbrev main_call1_cst : Ref sig .tc := ⟨.hbm, 103, rfl⟩
abbrev main_call1_v15 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_9 : Ref sig .tc := ⟨.hbm, 109, rfl⟩
abbrev main_v69 : Ref sig .tc := ⟨.hbm, 110, rfl⟩

abbrev nD : Nat := 1
abbrev τ : Topo := Topo.v7x

variable {F : FTy → Type} [FloatOps F]
-- ==== Proof.KI.SortLoop.lean ====
module

public import proofs.«01_k».proof.Proof.Gen.KernelIdeal.Loops
public import proofs.«01_k».proof.Proof.Gen.KernelIdeal.Frame
public import Idealize.ShloMosaic.Lib.Pipeline.ValueKit.Basic
public import Idealize.ShloMosaic.Lib.WholeRead
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz2 : (![0, 0] : Fin 2 → Nat) = fun _ => 0 := funext fun a => by fin_cases a <;> rfl

/-- A store over a whole buffer leaves exactly the stored vector. -/
theorem writes_all {S : Shape} {e : EltTy} (A : Memref sig .tc .vmem S e) (h : A.IsWhole) {off : Fin S.rank → Nat}
    (h0 : off = fun _ => 0) (inb) (f : A.view.ty.Contents (Elt F)) (p : Vec F S e) :
    A.view.writes (Elt F) f [⟨Rect.unit off S.size inb, p⟩] = h.unread p := by
  apply h.eq_unread
  rw [View.read_writes_eq_canon, View.canon_unit_zero h0]
  intro y
  exact ⟨_, List.mem_singleton_self _, by
    subst h0
    show y ∈ (Rect.whole S).set
    rw [Rect.set_whole]; exact Finset.mem_univ y⟩

/-- A load of a whole buffer reads what the buffer holds. -/
theorem readAt_all {S : Shape} {e : EltTy} (A : Memref sig .tc .vmem S e) (h : A.IsWhole) {off : Fin S.rank → Nat}
    (h0 : off = fun _ => 0) (inb) (X : Vec F S e) :
    View.readAt (Elt F) A.view (Rect.unit off S.size inb).toLoadRect (h.unread X) = X := by
  rw [View.readAt_eq_ld, h.read_unread, View.ld_unit_zero h0]

/-- The two stores above at the sorting buffer's shape. -/
theorem writes_W (A : Memref sig .tc .vmem S2048x256 .bf16) (h : A.IsWhole) (inb) (f : A.view.ty.Contents (Elt F)) (p : Vec F S2048x256 .bf16) :
    A.view.writes (Elt F) f [⟨Rect.unit (s := S2048x256) ![0, 0] ![2048, 256] inb, p⟩] = h.unread p := writes_all A h hz2 inb f p

theorem readAt_W (A : Memref sig .tc .vmem S2048x256 .bf16) (h : A.IsWhole) (inb) (X : Vec F S2048x256 .bf16) :
    View.readAt (Elt F) A.view (Rect.unit (s := S2048x256) ![0, 0] ![2048, 256] inb).toLoadRect (h.unread X) = X := readAt_all A h hz2 inb X

theorem ite_unread {S : Shape} {e : EltTy} (A : Memref sig .tc .vmem S e) (h : A.IsWhole) (c : Prop) [Decidable c] (X Y : Vec F S e) :
    (if c then h.unread X else h.unread Y) = h.unread (if c then X else Y) := by split <;> rfl

/-- The width `2^(k+1)` of the sorting trip `k`. -/
def vk (k : Fin k0_t3_loop.trips) : BitVec 32 := Scalar.shli 1#32 (Scf.iv 1#32 1#32 k)

/-- Whether trip `k` runs the stage at distance `J`. -/
abbrev gd (k : Fin k0_t3_loop.trips) (J : BitVec 32) : Prop :=
  Scalar.cmpi .ne (Scalar.extui (Scalar.cmpi .sge (Scalar.shrui (vk k) 1#32) J)) 0#32 = 1#1

/-- A guarded stage. -/
def stg (k : Fin k0_t3_loop.trips) (J : BitVec 32) (g : Vec F S2048x256 .bf16 → Vec F S2048x256 .bf16) (X : Vec F S2048x256 .bf16) : Vec F S2048x256 .bf16 :=
  if gd k J then g X else X

/-- One sorting trip as a function of the buffer. -/
def lvl (k : Fin k0_t3_loop.trips) (X : Vec F S2048x256 .bf16) : Vec F S2048x256 .bf16 :=
  stg k 1#32 (k0_pay87 (vk k)) <| stg k 2#32 (k0_pay86 (vk k)) <| stg k 4#32 (k0_pay85 (vk k)) <| stg k 8#32 (k0_pay84 (vk k)) <|
  stg k 16#32 (k0_pay64 1#32 1#32 k) <| stg k 32#32 (k0_pay63 1#32 1#32 k) <| stg k 64#32 (k0_pay62 1#32 1#32 k) <|
  stg k 128#32 (k0_pay61 1#32 1#32 k) <| stg k 256#32 (k0_pay60 1#32 1#32 k) <| stg k 512#32 (k0_pay59 1#32 1#32 k) <|
  stg k 1024#32 (k0_pay58 1#32 1#32 k) X

/-- The sorting buffer after the first `n` trips. -/
def lvls (X : Vec F S2048x256 .bf16) : Nat → Vec F S2048x256 .bf16
  | 0 => X
  | n + 1 => if h : n < k0_t3_loop.trips then lvl ⟨n, h⟩ (lvls X n) else lvls X n

theorem lvls_succ (X : Vec F S2048x256 .bf16) (k : Fin k0_t3_loop.trips) : lvls X (k.val + 1) = lvl k (lvls X k.val) := by
  simp only [lvls, k.isLt, dif_pos]

/-- One guarded stage of a trip: load the buffer, store `g` of it back, or leave it; the rest of the trip follows. -/
theorem stage_ok (𝒱 : Variants) (c : Dev nD) (bd : Option 𝒱.V) (E : Set ℕ) (arg14 : Memref sig .tc .vmem S2048x256 .bf16) (harg14 : arg14.IsWhole)
    {α : Type} (C : Prop) [Decidable C] (g : Vec F S2048x256 .bf16 → Vec F S2048x256 .bf16) (X : Vec F S2048x256 .bf16)
    (R : Prog (TpuEff nD τ sig (Elt F) Λ₀ .tc) α) (Q : α → sProp 𝕄) (hl hl' hs hm)
    (hk : (iprop(arg14.view.loc (c : Thread nD τ) ↦[arg14.view.set]{fullShare} harg14.unread (if C then g X else X)) : sProp 𝕄)
      ⊢ wp frame (wpE (defs₀ (F := F)) 𝒱 (c : Thread nD τ) bd) E R Q) :
    (iprop(arg14.view.loc (c : Thread nD τ) ↦[arg14.view.set]{fullShare} harg14.unread X) : sProp 𝕄)
      ⊢ wp frame (wpE (defs₀ (F := F)) 𝒱 (c : Thread nD τ) bd) E
        (if _h : C then do
          let v151 : Vec F S2048x256 .bf16 ← Prog.lift (.load arg14 (Rect.unit (s := S2048x256) ![0, 0] S2048x256.size inb_S2048x256_S2048x256_0_0).toLoadRect hl)
          let _v176 : Vec F S2048x256 .bf16 ← Prog.lift (.load arg14 (Rect.unit (s := S2048x256) ![0, 0] S2048x256.size inb_S2048x256_S2048x256_0_0).toLoadRect hl')
          Prog.lift (.store arg14 (Rect.unit (s := S2048x256) ![0, 0] S2048x256.size inb_S2048x256_S2048x256_0_0) (g v151) Finset.univ hs hm)
          R
        else R) Q := by
  split
  · rename_i h
    rw [if_pos h] at hk
    iintro H
    sl_exec
    rw [readAt_W, writes_W]
    iapply hk
    iexact H
  · rename_i h
    rw [if_neg h] at hk
    exact hk

theorem wp_pure_bind (𝒱 : Variants) (c : Dev nD) (bd : Option 𝒱.V) (E : Set ℕ) {α β : Type} (a : α) (P : sProp 𝕄)
    (k : α → Prog (TpuEff nD τ sig (Elt F) Λ₀ .tc) β) (Q : β → sProp 𝕄)
    (h : P ⊢ wp frame (wpE (defs₀ (F := F)) 𝒱 (c : Thread nD τ) bd) E (k a) Q) :
    P ⊢ wp frame (wpE (defs₀ (F := F)) 𝒱 (c : Thread nD τ) bd) E (pure a) (fun a => wp frame (wpE (defs₀ (F := F)) 𝒱 (c : Thread nD τ) bd) E (k a) Q) := by
  rw [← wp_bind]; exact h

theorem trip_t3 (𝒱 : Variants) (c : Dev nD) (bd : Option 𝒱.V) (E : Set ℕ) (i : grid0.Coords) (arg1 : Memref sig .tc .vmem S2048x256 .f32) (harg1 : arg1.IsWhole) (arg2 : Memref sig .tc .vmem S2048x256 .f32) (harg2 : arg2.IsWhole) (arg3 : Memref sig .tc .vmem S4x64x64 .f32) (harg3 : arg3.IsWhole) (arg4 : Memref sig .tc .vmem S2048x256 .f32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S1024x256 .bf16) (harg11 : arg11.IsWhole) (arg12 : Memref sig .tc .vmem S1024x256 .bf16) (harg12 : arg12.IsWhole) (arg13 : Memref sig .tc .vmem S2048x256 .f32) (harg13 : arg13.IsWhole) (arg14 : Memref sig .tc .vmem S2048x256 .bf16) (harg14 : arg14.IsWhole) (v23 : FVec F S1x256 .f32) (v29 : FVec F S1x256 .f32) (v34 : IVec S256x1 1)
    (k : Fin k0_t3_loop.trips) (acc : Unit) (X : Vec F S2048x256 .bf16) :
    (iprop(arg14.view.loc (c : Thread nD τ) ↦[arg14.view.set]{fullShare} harg14.unread X) : sProp 𝕄)
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 v23 v29 v34 k acc)
          fun _ => iprop(arg14.view.loc (c : Thread nD τ) ↦[arg14.view.set]{fullShare} harg14.unread (lvl k X)) := by
  unfold k0_t3_body
  rw [k0_part6_eq_skeleton, wp_bind]
  unfold k0_part6_skel
  iterate 7 refine stage_ok 𝒱 c bd E arg14 harg14 _ _ _ _ _ _ _ _ _ ?_
  refine wp_pure_bind 𝒱 c bd E _ _ _ _ ?_
  iterate 4 refine stage_ok 𝒱 c bd E arg14 harg14 _ _ _ _ _ _ _ _ _ ?_
  iintro H
  sl_step
  iexact H

end Cert.KernelIdeal.Gen
end
-- ==== Proof.KI.Trips.lean ====
module

public import proofs.«01_k».proof.Proof.KI.SortLoop

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The rows of a table that trip `k` of the first loop reads. -/
def rowsOf (T : Vec F S1024x2048 .bf16) (k : Fin k0_t1_loop.trips) : Vec F S256x2048 .bf16 :=
  View.ld T (Rect.unit (s := S1024x2048) (k0_off1 k) S256x2048.size (k0_off1_inb k))

/-- The columns of a table that trip `k` of the second loop reads. -/
def colsOf (T : Vec F S1024x2048 .bf16) (k : Fin k0_t2_loop.trips) : Vec F S1024x256 .bf16 :=
  View.ld T (Rect.unit (s := S1024x2048) (k0_off3 k) S1024x256.size (k0_off3_inb k))

/-- The spectrum blocks stored by trip `k` of the first loop. -/
def sp9 (x0 x1 : Vec F S2048x256 .f32) (T5 T6 T7 T8 : Vec F S1024x2048 .bf16) (k : Fin k0_t1_loop.trips) : FVec F S256x256 .bf16 :=
  k0_pay75 (rowsOf T8 k) (k0_pay51 x1) (k0_pay53 (rowsOf T5 k) (rowsOf T6 k) x0) (k0_pay54 (rowsOf T7 k) (rowsOf T8 k) x0) (k0_pay55 (rowsOf T5 k) (rowsOf T6 k) x1) (k0_pay56 (rowsOf T7 k) x1)
def sp10 (x0 x1 : Vec F S2048x256 .f32) (T5 T6 T7 T8 : Vec F S1024x2048 .bf16) (k : Fin k0_t1_loop.trips) : FVec F S256x256 .bf16 :=
  k0_pay76 (rowsOf T8 k) (k0_pay51 x1) (k0_pay53 (rowsOf T5 k) (rowsOf T6 k) x0) (k0_pay54 (rowsOf T7 k) (rowsOf T8 k) x0) (k0_pay55 (rowsOf T5 k) (rowsOf T6 k) x1) (k0_pay56 (rowsOf T7 k) x1)
def sp11 (x0 x1 : Vec F S2048x256 .f32) (T5 T6 T7 T8 : Vec F S1024x2048 .bf16) (k : Fin k0_t1_loop.trips) : FVec F S256x256 .bf16 :=
  k0_pay77 (rowsOf T8 k) (k0_pay51 x1) (k0_pay53 (rowsOf T5 k) (rowsOf T6 k) x0) (k0_pay54 (rowsOf T7 k) (rowsOf T8 k) x0) (k0_pay55 (rowsOf T5 k) (rowsOf T6 k) x1) (k0_pay56 (rowsOf T7 k) x1)
def sp12 (x0 x1 : Vec F S2048x256 .f32) (T5 T6 T7 T8 : Vec F S1024x2048 .bf16) (k : Fin k0_t1_loop.trips) : FVec F S256x256 .bf16 :=
  k0_pay78 (rowsOf T8 k) (k0_pay51 x1) (k0_pay53 (rowsOf T5 k) (rowsOf T6 k) x0) (k0_pay54 (rowsOf T7 k) (rowsOf T8 k) x0) (k0_pay55 (rowsOf T5 k) (rowsOf T6 k) x1) (k0_pay56 (rowsOf T7 k) x1)

/-- The correlation block stored by trip `k` of the second loop. -/
def co13 (v23 v29 : FVec F S1x256 .f32) (v34 : IVec S256x1 1) (T5 T6 T7 T8 : Vec F S1024x2048 .bf16) (R9 R10 R11 R12 : Vec F S1024x256 .bf16)
    (k : Fin k0_t2_loop.trips) : FVec F S256x256 .f32 :=
  k0_pay82 (k0_pay57 v23 v29 (k0_pay81 (F := F) v34) (colsOf T5 k) (colsOf T6 k) (colsOf T7 k) (colsOf T8 k) R9 R10 R11 R12)

theorem trip1_eq (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S4x64x64 .f32) (harg3 : arg3.IsWhole) (arg4 : Memref sig .tc .vmem S2048x256 .f32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S1024x256 .bf16) (harg11 : arg11.IsWhole) (arg12 : Memref sig .tc .vmem S1024x256 .bf16) (harg12 : arg12.IsWhole) (arg13 : Memref sig .tc .vmem S2048x256 .f32) (harg13 : arg13.IsWhole) (arg14 : Memref sig .tc .vmem S2048x256 .bf16) (harg14 : arg14.IsWhole) (x0 x1 : Vec F S2048x256 .f32) (T5 T6 T7 T8 : Vec F S1024x2048 .bf16) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg5.unread T5) (harg6.unread T6) (harg7.unread T7) (harg8.unread T8) k
      = ([⟨Rect.unit (s := S1024x256) (k0_off2 k) S256x256.size (k0_off2_inb k), sp9 x0 x1 T5 T6 T7 T8 k⟩],
         [⟨Rect.unit (s := S1024x256) (k0_off2 k) S256x256.size (k0_off2_inb k), sp10 x0 x1 T5 T6 T7 T8 k⟩],
         [⟨Rect.unit (s := S1024x256) (k0_off2 k) S256x256.size (k0_off2_inb k), sp11 x0 x1 T5 T6 T7 T8 k⟩],
         [⟨Rect.unit (s := S1024x256) (k0_off2 k) S256x256.size (k0_off2_inb k), sp12 x0 x1 T5 T6 T7 T8 k⟩]) := by
  have e1 : harg1.unread x0 = harg1.unread x0 := rfl
  have r5 : View.readAt (Elt F) arg5.view (Rect.unit (s := S1024x2048) (k0_off1 k) S256x2048.size (k0_off1_inb k)).toLoadRect (harg5.unread T5) = rowsOf T5 k := by
    rw [View.readAt_eq_ld, harg5.read_unread]; rfl
  have r6 : View.readAt (Elt F) arg6.view (Rect.unit (s := S1024x2048) (k0_off1 k) S256x2048.size (k0_off1_inb k)).toLoadRect (harg6.unread T6) = rowsOf T6 k := by
    rw [View.readAt_eq_ld, harg6.read_unread]; rfl
  have r7 : View.readAt (Elt F) arg7.view (Rect.unit (s := S1024x2048) (k0_off1 k) S256x2048.size (k0_off1_inb k)).toLoadRect (harg7.unread T7) = rowsOf T7 k := by
    rw [View.readAt_eq_ld, harg7.read_unread]; rfl
  have r8 : View.readAt (Elt F) arg8.view (Rect.unit (s := S1024x2048) (k0_off1 k) S256x2048.size (k0_off1_inb k)).toLoadRect (harg8.unread T8) = rowsOf T8 k := by
    rw [View.readAt_eq_ld, harg8.read_unread]; rfl
  have q1 : View.readAt (Elt F) arg1.view (Rect.unit (s := S2048x256) ![0, 0] S2048x256.size inb_S2048x256_S2048x256_0_0).toLoadRect (harg1.unread x0) = x0 := readAt_all arg1 harg1 hz2 _ x0
  have q2 : View.readAt (Elt F) arg2.view (Rect.unit (s := S2048x256) ![0, 0] S2048x256.size inb_S2048x256_S2048x256_0_0).toLoadRect (harg2.unread x1) = x1 := readAt_all arg2 harg2 hz2 _ x1
  unfold sp9 sp10 sp11 sp12
  rw [← r5, ← r6, ← r7, ← r8]
  conv_rhs => rw [← q1, ← q2]
  unfold tripL_k0_t1 trip_k0_t1
  rfl

theorem trip2_eq (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S4x64x64 .f32) (harg3 : arg3.IsWhole) (arg4 : Memref sig .tc .vmem S2048x256 .f32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S1024x256 .bf16) (harg11 : arg11.IsWhole) (arg12 : Memref sig .tc .vmem S1024x256 .bf16) (harg12 : arg12.IsWhole) (arg13 : Memref sig .tc .vmem S2048x256 .f32) (harg13 : arg13.IsWhole) (arg14 : Memref sig .tc .vmem S2048x256 .bf16) (harg14 : arg14.IsWhole) (v23 v29 : FVec F S1x256 .f32) (v34 : IVec S256x1 1) (T5 T6 T7 T8 : Vec F S1024x2048 .bf16)
    (R9 R10 R11 R12 : Vec F S1024x256 .bf16) (k : Fin k0_t2_loop.trips) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v23 v29 v34 (harg5.unread T5) (harg6.unread T6) (harg7.unread T7) (harg8.unread T8)
        (harg9.unread R9) (harg10.unread R10) (harg11.unread R11) (harg12.unread R12) k
      = [⟨Rect.unit (s := S2048x256) (k0_off4 k) S256x256.size (k0_off4_inb k), co13 v23 v29 v34 T5 T6 T7 T8 R9 R10 R11 R12 k⟩] := by
  have r5 : View.readAt (Elt F) arg5.view (Rect.unit (s := S1024x2048) (k0_off3 k) S1024x256.size (k0_off3_inb k)).toLoadRect (harg5.unread T5) = colsOf T5 k := by
    rw [View.readAt_eq_ld, harg5.read_unread]; rfl
  have r6 : View.readAt (Elt F) arg6.view (Rect.unit (s := S1024x2048) (k0_off3 k) S1024x256.size (k0_off3_inb k)).toLoadRect (harg6.unread T6) = colsOf T6 k := by
    rw [View.readAt_eq_ld, harg6.read_unread]; rfl
  have r7 : View.readAt (Elt F) arg7.view (Rect.unit (s := S1024x2048) (k0_off3 k) S1024x256.size (k0_off3_inb k)).toLoadRect (harg7.unread T7) = colsOf T7 k := by
    rw [View.readAt_eq_ld, harg7.read_unread]; rfl
  have r8 : View.readAt (Elt F) arg8.view (Rect.unit (s := S1024x2048) (k0_off3 k) S1024x256.size (k0_off3_inb k)).toLoadRect (harg8.unread T8) = colsOf T8 k := by
    rw [View.readAt_eq_ld, harg8.read_unread]; rfl
  have q9 : View.readAt (Elt F) arg9.view (Rect.unit (s := S1024x256) ![0, 0] S1024x256.size inb_S1024x256_S1024x256_0_0).toLoadRect (harg9.unread R9) = R9 := readAt_all arg9 harg9 hz2 _ R9
  have q10 : View.readAt (Elt F) arg10.view (Rect.unit (s := S1024x256) ![0, 0] S1024x256.size inb_S1024x256_S1024x256_0_0).toLoadRect (harg10.unread R10) = R10 := readAt_all arg10 harg10 hz2 _ R10
  have q11 : View.readAt (Elt F) arg11.view (Rect.unit (s := S1024x256) ![0, 0] S1024x256.size inb_S1024x256_S1024x256_0_0).toLoadRect (harg11.unread R11) = R11 := readAt_all arg11 harg11 hz2 _ R11
  have q12 : View.readAt (Elt F) arg12.view (Rect.unit (s := S1024x256) ![0, 0] S1024x256.size inb_S1024x256_S1024x256_0_0).toLoadRect (harg12.unread R12) = R12 := readAt_all arg12 harg12 hz2 _ R12
  unfold co13
  rw [← r5, ← r6, ← r7, ← r8]
  conv_rhs => rw [← q9, ← q10, ← q11, ← q12]
  unfold tripL_k0_t2 trip_k0_t2
  rfl

end Cert.KernelIdeal.Gen
end
-- ==== Proof.KI.Rows.lean ====
module

public import proofs.«01_k».proof.Proof.KI.Trips
public import Idealize.ShloMosaic.Lib.Pipeline.ValueKit.Tiles

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- `T` blocks of 256 rows, one above another. -/
def stk {N C T : Nat} {e : EltTy} (hN : N = 256 * T) (P : Fin T → Vec F ⟨2, ![256, C]⟩ e) : Vec F ⟨2, ![N, C]⟩ e :=
  fun y => P ⟨(y 0).val / 256, by have : (y 0).val < N := (y 0).isLt; omega⟩
    (fun d => match d with | ⟨0, _⟩ => ⟨(y 0).val % 256, Nat.mod_lt _ (by norm_num)⟩ | ⟨1, _⟩ => y 1)

/-- Storing the blocks from the top down, whatever was there, leaves the blocks one above another. -/
theorem rows_writes {N C T : Nat} {e : EltTy} (hN : N = 256 * T) (A : Memref sig .tc .vmem ⟨2, ![N, C]⟩ e) (h : A.IsWhole)
    (off : Fin T → Fin 2 → Nat) (hoff : ∀ k, off k = ![256 * k.val, 0])
    (inb : ∀ k, ∀ a, off k a + (![256, C] : Fin 2 → Nat) a ≤ (![N, C] : Fin 2 → Nat) a) (P : Fin T → Vec F ⟨2, ![256, C]⟩ e)
    (L : Nat → List (View.Piece (Elt F) ⟨2, ![N, C]⟩ e)) (hL0 : L 0 = [])
    (hLs : ∀ k : Fin T, L (k.val + 1) = (⟨Rect.unit (s := ⟨2, ![N, C]⟩) (off k) ![256, C] (inb k), P k⟩ : View.Piece (Elt F) ⟨2, ![N, C]⟩ e) :: L k.val)
    (f : A.view.ty.Contents (Elt F)) :
    A.view.writes (Elt F) f (L T) = h.unread (stk hN P) := by
  apply h.eq_unread
  have hc : ∀ n, n ≤ T → ∀ y : (⟨2, ![N, C]⟩ : Shape).Idx, (y 0).val < 256 * n → ∃ p ∈ L n, y ∈ p.1.set := by
    intro n
    induction n with
    | zero => intro _ y hy; omega
    | succ n ih =>
      intro hn y hy
      rw [hLs ⟨n, hn⟩]
      by_cases hlt : (y 0).val < 256 * n
      · obtain ⟨p, hp, hpy⟩ := ih (by omega) y hlt
        exact ⟨p, List.mem_cons_of_mem _ hp, hpy⟩
      · refine ⟨_, List.mem_cons_self, ?_⟩
        rw [Rect.mem_set_unit]
        intro a
        have h1 : (y 1).val < C := (y 1).isLt
        fin_cases a
        · simp [hoff]; omega
        · simp [hoff]; exact h1
  have ha : ∀ n, n ≤ T → ∀ y : (⟨2, ![N, C]⟩ : Shape).Idx, View.AllAt (L n) y (stk hN P y) := by
    intro n
    induction n with
    | zero => intro _ y; rw [hL0]; exact View.allAt_nil _ _
    | succ n ih =>
      intro hn y
      rw [hLs ⟨n, hn⟩]
      refine View.allAt_cons_unit _ _ _ _ _ ?_ (ih (by omega) y)
      intro x hx
      have h0 := hx 0
      have h1 := hx 1
      simp only [hoff] at h0 h1
      have hx0 : (x 0).val < 256 := (x 0).isLt
      have e0 : (y 0).val = 256 * n + (x 0).val := h0
      have e1 : (y 1).val = (x 1).val := by have : (y 1).val = 0 + (x 1).val := h1; omega
      have k0 : (⟨(y 0).val / 256, by have : (y 0).val < N := (y 0).isLt; omega⟩ : Fin T) = ⟨n, hn⟩ := Fin.ext (by show (y 0).val / 256 = n; omega)
      unfold stk
      rw [k0]
      congr 1
      funext d
      match d with
      | ⟨0, _⟩ => exact Fin.ext (by show (x 0).val = (y 0).val % 256; omega)
      | ⟨1, _⟩ => exact Fin.ext e1.symm
  funext y
  have hy : (y 0).val < 256 * T := by have : (y 0).val < N := (y 0).isLt; omega
  rw [View.read_writes_apply_eq_canon _ _ _ _ (hc T le_rfl y hy)]
  exact View.canon_eq_of_allAt _ _ _ (hc T le_rfl y hy) (ha T le_rfl y)

theorem trips1 : k0_t1_loop.trips = 4 := by decide +kernel
theorem trips2 : k0_t2_loop.trips = 8 := by decide +kernel
theorem trips3 : k0_t3_loop.trips = 11 := by decide +kernel

/-- What the first loop leaves in the four spectrum buffers. -/
def R9 (x0 x1 : Vec F S2048x256 .f32) (T5 T6 T7 T8 : Vec F S1024x2048 .bf16) : Vec F S1024x256 .bf16 :=
  stk (T := k0_t1_loop.trips) (N := 1024) (C := 256) (by rw [trips1]) (fun k => sp9 x0 x1 T5 T6 T7 T8 k)
def R10 (x0 x1 : Vec F S2048x256 .f32) (T5 T6 T7 T8 : Vec F S1024x2048 .bf16) : Vec F S1024x256 .bf16 :=
  stk (T := k0_t1_loop.trips) (N := 1024) (C := 256) (by rw [trips1]) (fun k => sp10 x0 x1 T5 T6 T7 T8 k)
def R11 (x0 x1 : Vec F S2048x256 .f32) (T5 T6 T7 T8 : Vec F S1024x2048 .bf16) : Vec F S1024x256 .bf16 :=
  stk (T := k0_t1_loop.trips) (N := 1024) (C := 256) (by rw [trips1]) (fun k => sp11 x0 x1 T5 T6 T7 T8 k)
def R12 (x0 x1 : Vec F S2048x256 .f32) (T5 T6 T7 T8 : Vec F S1024x2048 .bf16) : Vec F S1024x256 .bf16 :=
  stk (T := k0_t1_loop.trips) (N := 1024) (C := 256) (by rw [trips1]) (fun k => sp12 x0 x1 T5 T6 T7 T8 k)
/-- What the second loop leaves in the correlation buffer. -/
def C13 (v23 v29 : FVec F S1x256 .f32) (v34 : IVec S256x1 1) (T5 T6 T7 T8 : Vec F S1024x2048 .bf16) (r9 r10 r11 r12 : Vec F S1024x256 .bf16) : Vec F S2048x256 .f32 :=
  stk (T := k0_t2_loop.trips) (N := 2048) (C := 256) (by rw [trips2]) (fun k => co13 v23 v29 v34 T5 T6 T7 T8 r9 r10 r11 r12 k)

theorem loop1_9 (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S4x64x64 .f32) (harg3 : arg3.IsWhole) (arg4 : Memref sig .tc .vmem S2048x256 .f32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S1024x256 .bf16) (harg11 : arg11.IsWhole) (arg12 : Memref sig .tc .vmem S1024x256 .bf16) (harg12 : arg12.IsWhole) (arg13 : Memref sig .tc .vmem S2048x256 .f32) (harg13 : arg13.IsWhole) (arg14 : Memref sig .tc .vmem S2048x256 .bf16) (harg14 : arg14.IsWhole) (x0 x1 : Vec F S2048x256 .f32) (T5 T6 T7 T8 : Vec F S1024x2048 .bf16) (f : arg9.view.ty.Contents (Elt F)) :
    arg9.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg5.unread T5) (harg6.unread T6) (harg7.unread T7) (harg8.unread T8) k0_t1_loop.trips).1
      = harg9.unread (R9 x0 x1 T5 T6 T7 T8) :=
  rows_writes (N := 1024) (C := 256) (T := k0_t1_loop.trips) (by rw [trips1]) arg9 harg9 k0_off2 k0_off2_eq k0_off2_inb (fun k => sp9 x0 x1 T5 T6 T7 T8 k)
    (fun n => (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg5.unread T5) (harg6.unread T6) (harg7.unread T7) (harg8.unread T8) n).1) rfl
    (fun k => by
      show (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg5.unread T5) (harg6.unread T6) (harg7.unread T7) (harg8.unread T8) (k.val + 1)).1 = _
      rw [pb_k0_t1_succ, trip1_eq]; rfl) f

theorem loop1_10 (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S4x64x64 .f32) (harg3 : arg3.IsWhole) (arg4 : Memref sig .tc .vmem S2048x256 .f32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S1024x256 .bf16) (harg11 : arg11.IsWhole) (arg12 : Memref sig .tc .vmem S1024x256 .bf16) (harg12 : arg12.IsWhole) (arg13 : Memref sig .tc .vmem S2048x256 .f32) (harg13 : arg13.IsWhole) (arg14 : Memref sig .tc .vmem S2048x256 .bf16) (harg14 : arg14.IsWhole) (x0 x1 : Vec F S2048x256 .f32) (T5 T6 T7 T8 : Vec F S1024x2048 .bf16) (f : arg10.view.ty.Contents (Elt F)) :
    arg10.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg5.unread T5) (harg6.unread T6) (harg7.unread T7) (harg8.unread T8) k0_t1_loop.trips).2.1
      = harg10.unread (R10 x0 x1 T5 T6 T7 T8) :=
  rows_writes (N := 1024) (C := 256) (T := k0_t1_loop.trips) (by rw [trips1]) arg10 harg10 k0_off2 k0_off2_eq k0_off2_inb (fun k => sp10 x0 x1 T5 T6 T7 T8 k)
    (fun n => (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg5.unread T5) (harg6.unread T6) (harg7.unread T7) (harg8.unread T8) n).2.1) rfl
    (fun k => by
      show (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg5.unread T5) (harg6.unread T6) (harg7.unread T7) (harg8.unread T8) (k.val + 1)).2.1 = _
      rw [pb_k0_t1_succ, trip1_eq]; rfl) f

theorem loop1_11 (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S4x64x64 .f32) (harg3 : arg3.IsWhole) (arg4 : Memref sig .tc .vmem S2048x256 .f32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S1024x256 .bf16) (harg11 : arg11.IsWhole) (arg12 : Memref sig .tc .vmem S1024x256 .bf16) (harg12 : arg12.IsWhole) (arg13 : Memref sig .tc .vmem S2048x256 .f32) (harg13 : arg13.IsWhole) (arg14 : Memref sig .tc .vmem S2048x256 .bf16) (harg14 : arg14.IsWhole) (x0 x1 : Vec F S2048x256 .f32) (T5 T6 T7 T8 : Vec F S1024x2048 .bf16) (f : arg11.view.ty.Contents (Elt F)) :
    arg11.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg5.unread T5) (harg6.unread T6) (harg7.unread T7) (harg8.unread T8) k0_t1_loop.trips).2.2.1
      = harg11.unread (R11 x0 x1 T5 T6 T7 T8) :=
  rows_writes (N := 1024) (C := 256) (T := k0_t1_loop.trips) (by rw [trips1]) arg11 harg11 k0_off2 k0_off2_eq k0_off2_inb (fun k => sp11 x0 x1 T5 T6 T7 T8 k)
    (fun n => (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg5.unread T5) (harg6.unread T6) (harg7.unread T7) (harg8.unread T8) n).2.2.1) rfl
    (fun k => by
      show (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg5.unread T5) (harg6.unread T6) (harg7.unread T7) (harg8.unread T8) (k.val + 1)).2.2.1 = _
      rw [pb_k0_t1_succ, trip1_eq]; rfl) f

theorem loop1_12 (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S4x64x64 .f32) (harg3 : arg3.IsWhole) (arg4 : Memref sig .tc .vmem S2048x256 .f32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S1024x256 .bf16) (harg11 : arg11.IsWhole) (arg12 : Memref sig .tc .vmem S1024x256 .bf16) (harg12 : arg12.IsWhole) (arg13 : Memref sig .tc .vmem S2048x256 .f32) (harg13 : arg13.IsWhole) (arg14 : Memref sig .tc .vmem S2048x256 .bf16) (harg14 : arg14.IsWhole) (x0 x1 : Vec F S2048x256 .f32) (T5 T6 T7 T8 : Vec F S1024x2048 .bf16) (f : arg12.view.ty.Contents (Elt F)) :
    arg12.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg5.unread T5) (harg6.unread T6) (harg7.unread T7) (harg8.unread T8) k0_t1_loop.trips).2.2.2
      = harg12.unread (R12 x0 x1 T5 T6 T7 T8) :=
  rows_writes (N := 1024) (C := 256) (T := k0_t1_loop.trips) (by rw [trips1]) arg12 harg12 k0_off2 k0_off2_eq k0_off2_inb (fun k => sp12 x0 x1 T5 T6 T7 T8 k)
    (fun n => (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg5.unread T5) (harg6.unread T6) (harg7.unread T7) (harg8.unread T8) n).2.2.2) rfl
    (fun k => by
      show (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg5.unread T5) (harg6.unread T6) (harg7.unread T7) (harg8.unread T8) (k.val + 1)).2.2.2 = _
      rw [pb_k0_t1_succ, trip1_eq]; rfl) f

theorem loop2_13 (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S4x64x64 .f32) (harg3 : arg3.IsWhole) (arg4 : Memref sig .tc .vmem S2048x256 .f32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S1024x256 .bf16) (harg11 : arg11.IsWhole) (arg12 : Memref sig .tc .vmem S1024x256 .bf16) (harg12 : arg12.IsWhole) (arg13 : Memref sig .tc .vmem S2048x256 .f32) (harg13 : arg13.IsWhole) (arg14 : Memref sig .tc .vmem S2048x256 .bf16) (harg14 : arg14.IsWhole) (v23 v29 : FVec F S1x256 .f32) (v34 : IVec S256x1 1) (T5 T6 T7 T8 : Vec F S1024x2048 .bf16)
    (r9 r10 r11 r12 : Vec F S1024x256 .bf16) (f : arg13.view.ty.Contents (Elt F)) :
    arg13.view.writes (Elt F) f (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v23 v29 v34 (harg5.unread T5) (harg6.unread T6) (harg7.unread T7) (harg8.unread T8) (harg9.unread r9) (harg10.unread r10) (harg11.unread r11) (harg12.unread r12) k0_t2_loop.trips)
      = harg13.unread (C13 v23 v29 v34 T5 T6 T7 T8 r9 r10 r11 r12) :=
  rows_writes (N := 2048) (C := 256) (T := k0_t2_loop.trips) (by rw [trips2]) arg13 harg13 k0_off4 k0_off4_eq k0_off4_inb (fun k => co13 v23 v29 v34 T5 T6 T7 T8 r9 r10 r11 r12 k)
    (fun n => pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v23 v29 v34 (harg5.unread T5) (harg6.unread T6) (harg7.unread T7) (harg8.unread T8) (harg9.unread r9) (harg10.unread r10) (harg11.unread r11) (harg12.unread r12) n) rfl
    (fun k => by
      show pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v23 v29 v34 (harg5.unread T5) (harg6.unread T6) (harg7.unread T7) (harg8.unread T8) (harg9.unread r9) (harg10.unread r10) (harg11.unread r11) (harg12.unread r12) (k.val + 1) = _
      rw [pb_k0_t2_succ, trip2_eq]; rfl) f

end Cert.KernelIdeal.Gen
end
-- ==== Proof.KI.Body.lean ====
module

public import proofs.«01_k».proof.Proof.KI.Rows

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The sorting buffer's contents through the sorting trips, from the contents `G` at entry. -/
def g14 (A : Memref sig .tc .vmem S2048x256 .bf16) (h : A.IsWhole) (G : A.view.ty.Contents (Elt F)) : Nat → A.view.ty.Contents (Elt F)
  | 0 => G
  | n + 1 => h.unread (lvls (A.view.read (Elt F) G) (n + 1))

theorem g14_eq (A : Memref sig .tc .vmem S2048x256 .bf16) (h : A.IsWhole) (G : A.view.ty.Contents (Elt F)) (n : Nat) :
    g14 A h G n = h.unread (lvls (A.view.read (Elt F) G) n) := by
  cases n with
  | zero => exact (h.unread_read G).symm
  | succ n => rfl

abbrev inv_t3 (c : Dev nD) (arg14 : Memref sig .tc .vmem S2048x256 .bf16) (harg14 : arg14.IsWhole) (G : arg14.view.ty.Contents (Elt F)) (k : ℕ) (_u : PUnit) : sProp 𝕄 :=
  iprop(∃ f, (arg14.view.loc (c : Thread nD τ) ↦[arg14.view.set]{fullShare} f) ∗ ⌜f = g14 arg14 harg14 G k⌝)

set_option warn.classDefReducibility false in
@[sl_loop] def loopInv_t3 (𝒱 : Variants) (c : Dev nD) (bd : Option 𝒱.V) (E : Set ℕ) (i : grid0.Coords) (arg1 : Memref sig .tc .vmem S2048x256 .f32) (harg1 : arg1.IsWhole) (arg2 : Memref sig .tc .vmem S2048x256 .f32) (harg2 : arg2.IsWhole) (arg3 : Memref sig .tc .vmem S4x64x64 .f32) (harg3 : arg3.IsWhole) (arg4 : Memref sig .tc .vmem S2048x256 .f32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S1024x256 .bf16) (harg11 : arg11.IsWhole) (arg12 : Memref sig .tc .vmem S1024x256 .bf16) (harg12 : arg12.IsWhole) (arg13 : Memref sig .tc .vmem S2048x256 .f32) (harg13 : arg13.IsWhole) (arg14 : Memref sig .tc .vmem S2048x256 .bf16) (harg14 : arg14.IsWhole) (v23 : FVec F S1x256 .f32) (v29 : FVec F S1x256 .f32) (v34 : IVec S256x1 1)
    (G : arg14.view.ty.Contents (Elt F)) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 v23 v29 v34 where
  inv := inv_t3 c arg14 harg14 G
  step k acc := by
    iintro ⟨%f, HW, %h⟩
    iapply (wp_wand_r Idealize.ShloMosaic.frame (wpE (defs₀ (F := F)) 𝒱 (c : Thread nD τ) bd) E)
    isplitl [HW]
    · iapply (trip_t3 (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 v23 v29 v34 k acc (lvls (arg14.view.read (Elt F) G) k.val))
      rw [h, g14_eq]
      iexact HW
    · iintro %_ H
      iexists _
      isplitl [H]; · iexact H
      ipureintro
      rw [g14_eq, lvls_succ]

/-- The four tables, blocks of 256 rows each. -/
def P5 : Fin 4 → Vec F S256x2048 .bf16 := ![k0_pay9, k0_pay22 (k0_pay6 (F := F)) k0_pay16 k0_pay17,
  k0_pay35 (k0_pay29 k0_pay5 k0_pay6 (iota .tc S1x2048 32 [1] iota_S1x2048_d1_w32)), k0_pay65 (k0_pay44 k0_pay5 k0_pay6 (iota .tc S1x2048 32 [1] iota_S1x2048_d1_w32))]
def P6 : Fin 4 → Vec F S256x2048 .bf16 := ![k0_pay10, k0_pay23 (k0_pay6 (F := F)) k0_pay16 k0_pay17,
  k0_pay36 (k0_pay29 k0_pay5 k0_pay6 (iota .tc S1x2048 32 [1] iota_S1x2048_d1_w32)), k0_pay66 (k0_pay45 k0_pay5 k0_pay6 (iota .tc S1x2048 32 [1] iota_S1x2048_d1_w32))]
def P7 : Fin 4 → Vec F S256x2048 .bf16 := ![k0_pay11, k0_pay24 (k0_pay5 (F := F)) k0_pay6 k0_pay14 k0_pay15,
  k0_pay37 (k0_pay30 k0_pay6 (iota .tc S1x2048 32 [1] iota_S1x2048_d1_w32)) (k0_pay31 k0_pay5 (iota .tc S1x2048 32 [1] iota_S1x2048_d1_w32)), k0_pay67 (k0_pay46 k0_pay5 k0_pay6 (iota .tc S1x2048 32 [1] iota_S1x2048_d1_w32))]
def P8 : Fin 4 → Vec F S256x2048 .bf16 := ![k0_pay12, k0_pay25 (k0_pay5 (F := F)) k0_pay6 k0_pay14 k0_pay15,
  k0_pay38 (k0_pay30 k0_pay6 (iota .tc S1x2048 32 [1] iota_S1x2048_d1_w32)) (k0_pay31 k0_pay5 (iota .tc S1x2048 32 [1] iota_S1x2048_d1_w32)),
  k0_pay68 (k0_pay43 k0_pay5 k0_pay6 (iota .tc S1x2048 32 [1] iota_S1x2048_d1_w32)) (k0_pay46 k0_pay5 k0_pay6 (iota .tc S1x2048 32 [1] iota_S1x2048_d1_w32))]
def Tb5 : Vec F S1024x2048 .bf16 := stk (T := 4) (N := 1024) (C := 2048) rfl P5
def Tb6 : Vec F S1024x2048 .bf16 := stk (T := 4) (N := 1024) (C := 2048) rfl P6
def Tb7 : Vec F S1024x2048 .bf16 := stk (T := 4) (N := 1024) (C := 2048) rfl P7
def Tb8 : Vec F S1024x2048 .bf16 := stk (T := 4) (N := 1024) (C := 2048) rfl P8

/-- Four stores of blocks of 256 rows fill a table. -/
theorem table_writes (A : Memref sig .tc .vmem S1024x2048 .bf16) (h : A.IsWhole) (P : Fin 4 → Vec F S256x2048 .bf16) (i0 i1 i2 i3) (f : A.view.ty.Contents (Elt F)) :
    A.view.writes (Elt F) f [⟨Rect.unit (s := S1024x2048) ![768, 0] S256x2048.size i3, P 3⟩, ⟨Rect.unit (s := S1024x2048) ![512, 0] S256x2048.size i2, P 2⟩,
      ⟨Rect.unit (s := S1024x2048) ![256, 0] S256x2048.size i1, P 1⟩, ⟨Rect.unit (s := S1024x2048) ![0, 0] S256x2048.size i0, P 0⟩]
      = h.unread (stk (T := 4) (N := 1024) (C := 2048) rfl P) := by
  let L : List (View.Piece (Elt F) S1024x2048 .bf16) := [⟨Rect.unit (s := S1024x2048) ![768, 0] S256x2048.size i3, P 3⟩, ⟨Rect.unit (s := S1024x2048) ![512, 0] S256x2048.size i2, P 2⟩,
      ⟨Rect.unit (s := S1024x2048) ![256, 0] S256x2048.size i1, P 1⟩, ⟨Rect.unit (s := S1024x2048) ![0, 0] S256x2048.size i0, P 0⟩]
  exact rows_writes (N := 1024) (C := 2048) (T := 4) rfl A h (fun k => ![256 * k.val, 0]) (fun _ => rfl)
    (fun k a => by
      have hk := k.isLt
      fin_cases a
      · show 256 * k.val + 256 ≤ 1024; omega
      · show 0 + 2048 ≤ 2048; omega) P (fun n => L.drop (4 - n)) rfl
    (fun k => by fin_cases k <;> rfl) f

/-- The first grid point's stores: the four tables. -/
theorem tables_ok (𝒱 : Variants) (c : Dev nD) (bd : Option 𝒱.V) (E : Set ℕ) (i : grid0.Coords) (arg1 : Memref sig .tc .vmem S2048x256 .f32) (harg1 : arg1.IsWhole) (arg2 : Memref sig .tc .vmem S2048x256 .f32) (harg2 : arg2.IsWhole) (arg3 : Memref sig .tc .vmem S4x64x64 .f32) (harg3 : arg3.IsWhole) (arg4 : Memref sig .tc .vmem S2048x256 .f32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S1024x256 .bf16) (harg11 : arg11.IsWhole) (arg12 : Memref sig .tc .vmem S1024x256 .bf16) (harg12 : arg12.IsWhole) (arg13 : Memref sig .tc .vmem S2048x256 .f32) (harg13 : arg13.IsWhole) (arg14 : Memref sig .tc .vmem S2048x256 .bf16) (harg14 : arg14.IsWhole) {α : Type}
    (R : Prog (TpuEff nD τ sig (Elt F) Λ₀ .tc) α) (Q : α → sProp 𝕄) (f5 : arg5.view.ty.Contents (Elt F)) (f6 : arg6.view.ty.Contents (Elt F))
    (f7 : arg7.view.ty.Contents (Elt F)) (f8 : arg8.view.ty.Contents (Elt F)) (l5 l6 l7 l8 s5 s6 s7 s8 e5 e6 e7 e8) :
    iprop((arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)
      ∗ (iprop((arg5.view.loc (c : Thread nD τ) ↦[arg5.view.set]{fullShare} harg5.unread Tb5) ∗ (arg6.view.loc (c : Thread nD τ) ↦[arg6.view.set]{fullShare} harg6.unread Tb6) ∗ (arg7.view.loc (c : Thread nD τ) ↦[arg7.view.set]{fullShare} harg7.unread Tb7) ∗ (arg8.view.loc (c : Thread nD τ) ↦[arg8.view.set]{fullShare} harg8.unread Tb8)) -∗ wp frame (wpE (defs₀ (F := F)) 𝒱 (c : Thread nD τ) bd) E R Q))
    ⊢ wp frame (wpE (defs₀ (F := F)) 𝒱 (c : Thread nD τ) bd) E (do
      let ⟨v114, v115, v136, v144, v145, v147, v148⟩ : Σ' (v114 : FVec F S256x2048 .f32) (v115 : FVec F S256x2048 .f32) (v136 : IVec S1x2048 32) (v144 : FVec F S1x2048 .f32) (v145 : FVec F S1x2048 .f32) (v147 : FVec F S256x2048 .f32), FVec F S256x2048 .f32 ← k0_part1 i arg1 harg1 arg2 harg2 arg3 harg3 arg4 harg4 arg5 harg5 arg6 harg6 arg7 harg7 arg8 harg8 arg9 harg9 arg10 harg10 arg11 harg11 arg12 harg12 arg13 harg13 arg14 harg14
      let ⟨v189, v191, v193⟩ : Σ' (v189 : FVec F S256x2048 .f32) (v191 : FVec F S256x2048 .f32), FVec F S256x2048 .f32 ← k0_part2 i arg1 harg1 arg2 harg2 arg3 harg3 arg4 harg4 arg5 harg5 arg6 harg6 arg7 harg7 arg8 harg8 arg9 harg9 arg10 harg10 arg11 harg11 arg12 harg12 arg13 harg13 arg14 harg14 v114 v115 v136 v144 v145 v147 v148
      let ⟨v233, v234, v237, v238⟩ : Σ' (v233 : FVec F S256x2048 .f32) (v234 : FVec F S256x2048 .bf16) (v237 : FVec F S256x2048 .bf16), FVec F S256x2048 .bf16 ← k0_part3 i arg1 harg1 arg2 harg2 arg3 harg3 arg4 harg4 arg5 harg5 arg6 harg6 arg7 harg7 arg8 harg8 arg9 harg9 arg10 harg10 arg11 harg11 arg12 harg12 arg13 harg13 arg14 harg14 v114 v115 v136 v189 v191 v193
      let _v242 : Vec F S256x2048 .bf16 ← Prog.lift (.load arg5 (Rect.unit (s := S1024x2048) ![768, 0] S256x2048.size inb_S1024x2048_S256x2048_768_0).toLoadRect l5)
      Prog.lift (.store arg5 (Rect.unit (s := S1024x2048) ![768, 0] S256x2048.size inb_S1024x2048_S256x2048_768_0) (k0_pay65 v234) Finset.univ s5 e5)
      let _v245 : Vec F S256x2048 .bf16 ← Prog.lift (.load arg6 (Rect.unit (s := S1024x2048) ![768, 0] S256x2048.size inb_S1024x2048_S256x2048_768_0).toLoadRect l6)
      Prog.lift (.store arg6 (Rect.unit (s := S1024x2048) ![768, 0] S256x2048.size inb_S1024x2048_S256x2048_768_0) (k0_pay66 v237) Finset.univ s6 e6)
      let _v248 : Vec F S256x2048 .bf16 ← Prog.lift (.load arg7 (Rect.unit (s := S1024x2048) ![768, 0] S256x2048.size inb_S1024x2048_S256x2048_768_0).toLoadRect l7)
      Prog.lift (.store arg7 (Rect.unit (s := S1024x2048) ![768, 0] S256x2048.size inb_S1024x2048_S256x2048_768_0) (k0_pay67 v238) Finset.univ s7 e7)
      let _v251 : Vec F S256x2048 .bf16 ← Prog.lift (.load arg8 (Rect.unit (s := S1024x2048) ![768, 0] S256x2048.size inb_S1024x2048_S256x2048_768_0).toLoadRect l8)
      Prog.lift (.store arg8 (Rect.unit (s := S1024x2048) ![768, 0] S256x2048.size inb_S1024x2048_S256x2048_768_0) (k0_pay68 v233 v238) Finset.univ s8 e8)
      R) Q := by
  simp only [k0_part1_eq_skeleton, k0_part2_eq_skeleton, k0_part3_eq_skeleton]
  iintro ⟨H5, H6, H7, H8, Hk⟩
  sl_exec
  iapply Hk
  have w5 := table_writes (F := F) arg5 harg5 P5 inb_S1024x2048_S256x2048_0_0 inb_S1024x2048_S256x2048_256_0 inb_S1024x2048_S256x2048_512_0 inb_S1024x2048_S256x2048_768_0 f5
  have w6 := table_writes (F := F) arg6 harg6 P6 inb_S1024x2048_S256x2048_0_0 inb_S1024x2048_S256x2048_256_0 inb_S1024x2048_S256x2048_512_0 inb_S1024x2048_S256x2048_768_0 f6
  have w7 := table_writes (F := F) arg7 harg7 P7 inb_S1024x2048_S256x2048_0_0 inb_S1024x2048_S256x2048_256_0 inb_S1024x2048_S256x2048_512_0 inb_S1024x2048_S256x2048_768_0 f7
  have w8 := table_writes (F := F) arg8 harg8 P8 inb_S1024x2048_S256x2048_0_0 inb_S1024x2048_S256x2048_256_0 inb_S1024x2048_S256x2048_512_0 inb_S1024x2048_S256x2048_768_0 f8
  unfold Tb5 Tb6 Tb7 Tb8
  rw [← w5, ← w6, ← w7, ← w8]
  isplitl [H5]; · iexact H5
  isplitl [H6]; · iexact H6
  isplitl [H7]; · iexact H7
  iexact H8

/-- The row of frequency zero of a spectrum buffer. -/
def row0 (R : Vec F S1024x256 .bf16) : Vec F S1x256 .bf16 := View.ld R (Rect.unit (s := S1024x256) ![0, 0] S1x256.size inb_S1024x256_S1x256_0_0)

/-- The spectra: the tables in place, the rest of the first half of the body. -/
theorem spectra_ok (𝒱 : Variants) (c : Dev nD) (bd : Option 𝒱.V) (E : Set ℕ) (i : grid0.Coords) (arg1 : Memref sig .tc .vmem S2048x256 .f32) (harg1 : arg1.IsWhole) (arg2 : Memref sig .tc .vmem S2048x256 .f32) (harg2 : arg2.IsWhole) (arg3 : Memref sig .tc .vmem S4x64x64 .f32) (harg3 : arg3.IsWhole) (arg4 : Memref sig .tc .vmem S2048x256 .f32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S1024x256 .bf16) (harg11 : arg11.IsWhole) (arg12 : Memref sig .tc .vmem S1024x256 .bf16) (harg12 : arg12.IsWhole) (arg13 : Memref sig .tc .vmem S2048x256 .f32) (harg13 : arg13.IsWhole) (arg14 : Memref sig .tc .vmem S2048x256 .bf16) (harg14 : arg14.IsWhole)
    (Q : (Σ' (v23 : FVec F S1x256 .f32) (v29 : FVec F S1x256 .f32), IVec S256x1 1) → sProp 𝕄) (x0 x1 : Vec F S2048x256 .f32) (T5 T6 T7 T8 : Vec F S1024x2048 .bf16)
    (f9 : arg9.view.ty.Contents (Elt F)) (f10 : arg10.view.ty.Contents (Elt F)) (f11 : arg11.view.ty.Contents (Elt F)) (f12 : arg12.view.ty.Contents (Elt F)) (l1 l2 l9 l10) :
    iprop((arg1.view.loc (c : Thread nD τ) ↦[arg1.view.set]{fullShare} harg1.unread x0) ∗ (arg2.view.loc (c : Thread nD τ) ↦[arg2.view.set]{fullShare} harg2.unread x1) ∗ (arg5.view.loc (c : Thread nD τ) ↦[arg5.view.set]{fullShare} harg5.unread T5) ∗ (arg6.view.loc (c : Thread nD τ) ↦[arg6.view.set]{fullShare} harg6.unread T6) ∗ (arg7.view.loc (c : Thread nD τ) ↦[arg7.view.set]{fullShare} harg7.unread T7) ∗ (arg8.view.loc (c : Thread nD τ) ↦[arg8.view.set]{fullShare} harg8.unread T8)
      ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)
      ∗ (iprop((arg1.view.loc (c : Thread nD τ) ↦[arg1.view.set]{fullShare} harg1.unread x0) ∗ (arg2.view.loc (c : Thread nD τ) ↦[arg2.view.set]{fullShare} harg2.unread x1) ∗ (arg5.view.loc (c : Thread nD τ) ↦[arg5.view.set]{fullShare} harg5.unread T5) ∗ (arg6.view.loc (c : Thread nD τ) ↦[arg6.view.set]{fullShare} harg6.unread T6) ∗ (arg7.view.loc (c : Thread nD τ) ↦[arg7.view.set]{fullShare} harg7.unread T7) ∗ (arg8.view.loc (c : Thread nD τ) ↦[arg8.view.set]{fullShare} harg8.unread T8)
        ∗ (arg9.view.loc (c : Thread nD τ) ↦[arg9.view.set]{fullShare} harg9.unread (R9 x0 x1 T5 T6 T7 T8)) ∗ (arg10.view.loc (c : Thread nD τ) ↦[arg10.view.set]{fullShare} harg10.unread (R10 x0 x1 T5 T6 T7 T8)) ∗ (arg11.view.loc (c : Thread nD τ) ↦[arg11.view.set]{fullShare} harg11.unread (R11 x0 x1 T5 T6 T7 T8)) ∗ (arg12.view.loc (c : Thread nD τ) ↦[arg12.view.set]{fullShare} harg12.unread (R12 x0 x1 T5 T6 T7 T8)))
        -∗ Q ⟨k0_pay69 x0 x1, k0_pay79 (row0 (R9 x0 x1 T5 T6 T7 T8)) (row0 (R10 x0 x1 T5 T6 T7 T8)), k0_pay80⟩))
    ⊢ wp frame (wpE (defs₀ (F := F)) 𝒱 (c : Thread nD τ) bd) E (do
      let v11 : Vec F S2048x256 .f32 ← Prog.lift (.load arg1 (Rect.unit (s := S2048x256) ![0, 0] S2048x256.size inb_S2048x256_S2048x256_0_0).toLoadRect l1)
      let v17 : Vec F S2048x256 .f32 ← Prog.lift (.load arg2 (Rect.unit (s := S2048x256) ![0, 0] S2048x256.size inb_S2048x256_S2048x256_0_0).toLoadRect l2)
      Scf.Loop.for k0_t1_loop k0_t1_ok ⟨⟩ (k0_t1_body i arg1 harg1 arg2 harg2 arg3 harg3 arg4 harg4 arg5 harg5 arg6 harg6 arg7 harg7 arg8 harg8 arg9 harg9 arg10 harg10 arg11 harg11 arg12 harg12 arg13 harg13 arg14 harg14)
      let v25 : Vec F S1x256 .bf16 ← Prog.lift (.load arg9 (Rect.unit (s := S1024x256) ![0, 0] S1x256.size inb_S1024x256_S1x256_0_0).toLoadRect l9)
      let v27 : Vec F S1x256 .bf16 ← Prog.lift (.load arg10 (Rect.unit (s := S1024x256) ![0, 0] S1x256.size inb_S1024x256_S1x256_0_0).toLoadRect l10)
      pure ⟨k0_pay69 v11 v17, k0_pay79 v25 v27, k0_pay80⟩) Q := by
  iintro ⟨H1, H2, H5, H6, H7, H8, H9, H10, H11, H12, Hk⟩
  sl_exec
  sl_step
  have q1 : View.readAt (Elt F) arg1.view (Rect.unit (s := S2048x256) ![0, 0] S2048x256.size inb_S2048x256_S2048x256_0_0).toLoadRect (harg1.unread x0) = x0 := readAt_all arg1 harg1 hz2 _ x0
  have q2 : View.readAt (Elt F) arg2.view (Rect.unit (s := S2048x256) ![0, 0] S2048x256.size inb_S2048x256_S2048x256_0_0).toLoadRect (harg2.unread x1) = x1 := readAt_all arg2 harg2 hz2 _ x1
  have q9 : View.readAt (Elt F) arg9.view (Rect.unit (s := S1024x256) ![0, 0] S1x256.size inb_S1024x256_S1x256_0_0).toLoadRect (harg9.unread (R9 x0 x1 T5 T6 T7 T8)) = row0 (R9 x0 x1 T5 T6 T7 T8) := by
    rw [View.readAt_eq_ld, harg9.read_unread]; rfl
  have q10 : View.readAt (Elt F) arg10.view (Rect.unit (s := S1024x256) ![0, 0] S1x256.size inb_S1024x256_S1x256_0_0).toLoadRect (harg10.unread (R10 x0 x1 T5 T6 T7 T8)) = row0 (R10 x0 x1 T5 T6 T7 T8) := by
    rw [View.readAt_eq_ld, harg10.read_unread]; rfl
  sl_unfold_words
  have e9 : arg9.view.writes (Elt F) f9 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg5.unread T5) (harg6.unread T6) (harg7.unread T7) (harg8.unread T8) (Scf.trips k0_t1_loop.lb k0_t1_loop.ub k0_t1_loop.st)).1 = harg9.unread (R9 x0 x1 T5 T6 T7 T8) := loop1_9 𝒱 c bd i arg1 harg1 arg2 harg2 arg3 harg3 arg4 harg4 arg5 harg5 arg6 harg6 arg7 harg7 arg8 harg8 arg9 harg9 arg10 harg10 arg11 harg11 arg12 harg12 arg13 harg13 arg14 harg14 x0 x1 T5 T6 T7 T8 f9
  have e10 : arg10.view.writes (Elt F) f10 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg5.unread T5) (harg6.unread T6) (harg7.unread T7) (harg8.unread T8) (Scf.trips k0_t1_loop.lb k0_t1_loop.ub k0_t1_loop.st)).2.1 = harg10.unread (R10 x0 x1 T5 T6 T7 T8) := loop1_10 𝒱 c bd i arg1 harg1 arg2 harg2 arg3 harg3 arg4 harg4 arg5 harg5 arg6 harg6 arg7 harg7 arg8 harg8 arg9 harg9 arg10 harg10 arg11 harg11 arg12 harg12 arg13 harg13 arg14 harg14 x0 x1 T5 T6 T7 T8 f10
  have e11 : arg11.view.writes (Elt F) f11 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg5.unread T5) (harg6.unread T6) (harg7.unread T7) (harg8.unread T8) (Scf.trips k0_t1_loop.lb k0_t1_loop.ub k0_t1_loop.st)).2.2.1 = harg11.unread (R11 x0 x1 T5 T6 T7 T8) := loop1_11 𝒱 c bd i arg1 harg1 arg2 harg2 arg3 harg3 arg4 harg4 arg5 harg5 arg6 harg6 arg7 harg7 arg8 harg8 arg9 harg9 arg10 harg10 arg11 harg11 arg12 harg12 arg13 harg13 arg14 harg14 x0 x1 T5 T6 T7 T8 f11
  have e12 : arg12.view.writes (Elt F) f12 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg5.unread T5) (harg6.unread T6) (harg7.unread T7) (harg8.unread T8) (Scf.trips k0_t1_loop.lb k0_t1_loop.ub k0_t1_loop.st)).2.2.2 = harg12.unread (R12 x0 x1 T5 T6 T7 T8) := loop1_12 𝒱 c bd i arg1 harg1 arg2 harg2 arg3 harg3 arg4 harg4 arg5 harg5 arg6 harg6 arg7 harg7 arg8 harg8 arg9 harg9 arg10 harg10 arg11 harg11 arg12 harg12 arg13 harg13 arg14 harg14 x0 x1 T5 T6 T7 T8 f12
  rw [e9, e10, e11, e12, q1, q2, q9, q10]
  iapply Hk
  isplitl [H1]; · iexact H1
  isplitl [H2]; · iexact H2
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- Whether a grid point is the first. -/
def cond0 (i : grid0.Coords) : Prop := (Scalar.cmpi .ne (Scalar.extui (Scalar.cmpi .eq (BitVec.ofNat 32 (i 0).val) 0#32)) 0#32) = 1#1

/-- The first half of the body at a later grid point, the tables in place. -/
theorem part7_later (𝒱 : Variants) (c : Dev nD) (bd : Option 𝒱.V) (E : Set ℕ) (i : grid0.Coords) (arg1 : Memref sig .tc .vmem S2048x256 .f32) (harg1 : arg1.IsWhole) (arg2 : Memref sig .tc .vmem S2048x256 .f32) (harg2 : arg2.IsWhole) (arg3 : Memref sig .tc .vmem S4x64x64 .f32) (harg3 : arg3.IsWhole) (arg4 : Memref sig .tc .vmem S2048x256 .f32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S1024x256 .bf16) (harg11 : arg11.IsWhole) (arg12 : Memref sig .tc .vmem S1024x256 .bf16) (harg12 : arg12.IsWhole) (arg13 : Memref sig .tc .vmem S2048x256 .f32) (harg13 : arg13.IsWhole) (arg14 : Memref sig .tc .vmem S2048x256 .bf16) (harg14 : arg14.IsWhole) (hc : ¬cond0 i)
    (Q : (Σ' (v23 : FVec F S1x256 .f32) (v29 : FVec F S1x256 .f32), IVec S256x1 1) → sProp 𝕄) (x0 x1 : Vec F S2048x256 .f32) (T5 T6 T7 T8 : Vec F S1024x2048 .bf16)
    (f9 : arg9.view.ty.Contents (Elt F)) (f10 : arg10.view.ty.Contents (Elt F)) (f11 : arg11.view.ty.Contents (Elt F)) (f12 : arg12.view.ty.Contents (Elt F)) :
    iprop((arg1.view.loc (c : Thread nD τ) ↦[arg1.view.set]{fullShare} harg1.unread x0) ∗ (arg2.view.loc (c : Thread nD τ) ↦[arg2.view.set]{fullShare} harg2.unread x1) ∗ (arg5.view.loc (c : Thread nD τ) ↦[arg5.view.set]{fullShare} harg5.unread T5) ∗ (arg6.view.loc (c : Thread nD τ) ↦[arg6.view.set]{fullShare} harg6.unread T6) ∗ (arg7.view.loc (c : Thread nD τ) ↦[arg7.view.set]{fullShare} harg7.unread T7) ∗ (arg8.view.loc (c : Thread nD τ) ↦[arg8.view.set]{fullShare} harg8.unread T8)
      ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)
      ∗ (iprop((arg1.view.loc (c : Thread nD τ) ↦[arg1.view.set]{fullShare} harg1.unread x0) ∗ (arg2.view.loc (c : Thread nD τ) ↦[arg2.view.set]{fullShare} harg2.unread x1) ∗ (arg5.view.loc (c : Thread nD τ) ↦[arg5.view.set]{fullShare} harg5.unread T5) ∗ (arg6.view.loc (c : Thread nD τ) ↦[arg6.view.set]{fullShare} harg6.unread T6) ∗ (arg7.view.loc (c : Thread nD τ) ↦[arg7.view.set]{fullShare} harg7.unread T7) ∗ (arg8.view.loc (c : Thread nD τ) ↦[arg8.view.set]{fullShare} harg8.unread T8)
        ∗ (arg9.view.loc (c : Thread nD τ) ↦[arg9.view.set]{fullShare} harg9.unread (R9 x0 x1 T5 T6 T7 T8)) ∗ (arg10.view.loc (c : Thread nD τ) ↦[arg10.view.set]{fullShare} harg10.unread (R10 x0 x1 T5 T6 T7 T8)) ∗ (arg11.view.loc (c : Thread nD τ) ↦[arg11.view.set]{fullShare} harg11.unread (R11 x0 x1 T5 T6 T7 T8)) ∗ (arg12.view.loc (c : Thread nD τ) ↦[arg12.view.set]{fullShare} harg12.unread (R12 x0 x1 T5 T6 T7 T8)))
        -∗ Q ⟨k0_pay69 x0 x1, k0_pay79 (row0 (R9 x0 x1 T5 T6 T7 T8)) (row0 (R10 x0 x1 T5 T6 T7 T8)), k0_pay80⟩))
    ⊢ wp frame (wpE (defs₀ (F := F)) 𝒱 (c : Thread nD τ) bd) E (k0_part7 i arg1 harg1 arg2 harg2 arg3 harg3 arg4 harg4 arg5 harg5 arg6 harg6 arg7 harg7 arg8 harg8 arg9 harg9 arg10 harg10 arg11 harg11 arg12 harg12 arg13 harg13 arg14 harg14) Q := by
  rw [k0_part7_eq_skeleton]
  unfold k0_part7_skel
  rw [dif_neg (show ¬((Scalar.cmpi .ne (Scalar.extui (Scalar.cmpi .eq (BitVec.ofNat 32 (i 0).val) 0#32)) 0#32) = 1#1) from hc)]
  exact spectra_ok 𝒱 c bd E i arg1 harg1 arg2 harg2 arg3 harg3 arg4 harg4 arg5 harg5 arg6 harg6 arg7 harg7 arg8 harg8 arg9 harg9 arg10 harg10 arg11 harg11 arg12 harg12 arg13 harg13 arg14 harg14 Q x0 x1 T5 T6 T7 T8 f9 f10 f11 f12 _ _ _ _

/-- The first half of the body at the first grid point. -/
theorem part7_first (𝒱 : Variants) (c : Dev nD) (bd : Option 𝒱.V) (E : Set ℕ) (i : grid0.Coords) (arg1 : Memref sig .tc .vmem S2048x256 .f32) (harg1 : arg1.IsWhole) (arg2 : Memref sig .tc .vmem S2048x256 .f32) (harg2 : arg2.IsWhole) (arg3 : Memref sig .tc .vmem S4x64x64 .f32) (harg3 : arg3.IsWhole) (arg4 : Memref sig .tc .vmem S2048x256 .f32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S1024x256 .bf16) (harg11 : arg11.IsWhole) (arg12 : Memref sig .tc .vmem S1024x256 .bf16) (harg12 : arg12.IsWhole) (arg13 : Memref sig .tc .vmem S2048x256 .f32) (harg13 : arg13.IsWhole) (arg14 : Memref sig .tc .vmem S2048x256 .bf16) (harg14 : arg14.IsWhole) (hc : cond0 i)
    (Q : (Σ' (v23 : FVec F S1x256 .f32) (v29 : FVec F S1x256 .f32), IVec S256x1 1) → sProp 𝕄) (x0 x1 : Vec F S2048x256 .f32)
    (f5 : arg5.view.ty.Contents (Elt F)) (f6 : arg6.view.ty.Contents (Elt F)) (f7 : arg7.view.ty.Contents (Elt F)) (f8 : arg8.view.ty.Contents (Elt F))
    (f9 : arg9.view.ty.Contents (Elt F)) (f10 : arg10.view.ty.Contents (Elt F)) (f11 : arg11.view.ty.Contents (Elt F)) (f12 : arg12.view.ty.Contents (Elt F)) :
    iprop((arg1.view.loc (c : Thread nD τ) ↦[arg1.view.set]{fullShare} harg1.unread x0) ∗ (arg2.view.loc (c : Thread nD τ) ↦[arg2.view.set]{fullShare} harg2.unread x1) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)
      ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)
      ∗ (iprop((arg1.view.loc (c : Thread nD τ) ↦[arg1.view.set]{fullShare} harg1.unread x0) ∗ (arg2.view.loc (c : Thread nD τ) ↦[arg2.view.set]{fullShare} harg2.unread x1) ∗ (arg5.view.loc (c : Thread nD τ) ↦[arg5.view.set]{fullShare} harg5.unread Tb5) ∗ (arg6.view.loc (c : Thread nD τ) ↦[arg6.view.set]{fullShare} harg6.unread Tb6) ∗ (arg7.view.loc (c : Thread nD τ) ↦[arg7.view.set]{fullShare} harg7.unread Tb7) ∗ (arg8.view.loc (c : Thread nD τ) ↦[arg8.view.set]{fullShare} harg8.unread Tb8)
        ∗ (arg9.view.loc (c : Thread nD τ) ↦[arg9.view.set]{fullShare} harg9.unread (R9 x0 x1 Tb5 Tb6 Tb7 Tb8)) ∗ (arg10.view.loc (c : Thread nD τ) ↦[arg10.view.set]{fullShare} harg10.unread (R10 x0 x1 Tb5 Tb6 Tb7 Tb8)) ∗ (arg11.view.loc (c : Thread nD τ) ↦[arg11.view.set]{fullShare} harg11.unread (R11 x0 x1 Tb5 Tb6 Tb7 Tb8)) ∗ (arg12.view.loc (c : Thread nD τ) ↦[arg12.view.set]{fullShare} harg12.unread (R12 x0 x1 Tb5 Tb6 Tb7 Tb8)))
        -∗ Q ⟨k0_pay69 x0 x1, k0_pay79 (row0 (R9 x0 x1 Tb5 Tb6 Tb7 Tb8)) (row0 (R10 x0 x1 Tb5 Tb6 Tb7 Tb8)), k0_pay80⟩))
    ⊢ wp frame (wpE (defs₀ (F := F)) 𝒱 (c : Thread nD τ) bd) E (k0_part7 i arg1 harg1 arg2 harg2 arg3 harg3 arg4 harg4 arg5 harg5 arg6 harg6 arg7 harg7 arg8 harg8 arg9 harg9 arg10 harg10 arg11 harg11 arg12 harg12 arg13 harg13 arg14 harg14) Q := by
  rw [k0_part7_eq_skeleton]
  unfold k0_part7_skel
  rw [dif_pos (show ((Scalar.cmpi .ne (Scalar.extui (Scalar.cmpi .eq (BitVec.ofNat 32 (i 0).val) 0#32)) 0#32) = 1#1) from hc)]
  iintro ⟨H1, H2, H5, H6, H7, H8, H9, H10, H11, H12, Hk⟩
  iapply (tables_ok 𝒱 c bd E i arg1 harg1 arg2 harg2 arg3 harg3 arg4 harg4 arg5 harg5 arg6 harg6 arg7 harg7 arg8 harg8 arg9 harg9 arg10 harg10 arg11 harg11 arg12 harg12 arg13 harg13 arg14 harg14 _ Q f5 f6 f7 f8 _ _ _ _ _ _ _ _ _ _ _ _)
  isplitl [H5]; · iexact H5
  isplitl [H6]; · iexact H6
  isplitl [H7]; · iexact H7
  isplitl [H8]; · iexact H8
  iintro ⟨H5, H6, H7, H8⟩
  iapply (spectra_ok 𝒱 c bd E i arg1 harg1 arg2 harg2 arg3 harg3 arg4 harg4 arg5 harg5 arg6 harg6 arg7 harg7 arg8 harg8 arg9 harg9 arg10 harg10 arg11 harg11 arg12 harg12 arg13 harg13 arg14 harg14 Q x0 x1 Tb5 Tb6 Tb7 Tb8 f9 f10 f11 f12 _ _ _ _)
  isplitl [H1]; · iexact H1
  isplitl [H2]; · iexact H2
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact Hk

/-- The sorted scores: eleven levels over the scaled correlations. -/
def srt (v23 : FVec F S1x256 .f32) (v29 : FVec F S1x256 .f32) (v34 : IVec S256x1 1) (T5 T6 T7 T8 : Vec F S1024x2048 .bf16) (r9 r10 r11 r12 : Vec F S1024x256 .bf16) : Vec F S2048x256 .bf16 :=
  lvls (k0_pay83 (C13 v23 v29 v34 T5 T6 T7 T8 r9 r10 r11 r12)) 11

/-- The second half of the body. -/
theorem part8_ok (𝒱 : Variants) (c : Dev nD) (bd : Option 𝒱.V) (E : Set ℕ) (i : grid0.Coords) (arg1 : Memref sig .tc .vmem S2048x256 .f32) (harg1 : arg1.IsWhole) (arg2 : Memref sig .tc .vmem S2048x256 .f32) (harg2 : arg2.IsWhole) (arg3 : Memref sig .tc .vmem S4x64x64 .f32) (harg3 : arg3.IsWhole) (arg4 : Memref sig .tc .vmem S2048x256 .f32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S1024x256 .bf16) (harg11 : arg11.IsWhole) (arg12 : Memref sig .tc .vmem S1024x256 .bf16) (harg12 : arg12.IsWhole) (arg13 : Memref sig .tc .vmem S2048x256 .f32) (harg13 : arg13.IsWhole) (arg14 : Memref sig .tc .vmem S2048x256 .bf16) (harg14 : arg14.IsWhole) (v23 : FVec F S1x256 .f32) (v29 : FVec F S1x256 .f32) (v34 : IVec S256x1 1)
    (Q : (Σ' (v55 : FVec F S2048x256 .bf16) (v57 : FVec F S4x64x64 .f32), FVec F S2048x64 .f32) → sProp 𝕄) (x2 : Vec F S4x64x64 .f32) (T5 T6 T7 T8 : Vec F S1024x2048 .bf16) (r9 r10 r11 r12 : Vec F S1024x256 .bf16)
    (f13 : arg13.view.ty.Contents (Elt F)) (f14 : arg14.view.ty.Contents (Elt F)) :
    iprop((arg3.view.loc (c : Thread nD τ) ↦[arg3.view.set]{fullShare} harg3.unread x2) ∗ (arg5.view.loc (c : Thread nD τ) ↦[arg5.view.set]{fullShare} harg5.unread T5) ∗ (arg6.view.loc (c : Thread nD τ) ↦[arg6.view.set]{fullShare} harg6.unread T6) ∗ (arg7.view.loc (c : Thread nD τ) ↦[arg7.view.set]{fullShare} harg7.unread T7) ∗ (arg8.view.loc (c : Thread nD τ) ↦[arg8.view.set]{fullShare} harg8.unread T8)
      ∗ (arg9.view.loc (c : Thread nD τ) ↦[arg9.view.set]{fullShare} harg9.unread r9) ∗ (arg10.view.loc (c : Thread nD τ) ↦[arg10.view.set]{fullShare} harg10.unread r10) ∗ (arg11.view.loc (c : Thread nD τ) ↦[arg11.view.set]{fullShare} harg11.unread r11) ∗ (arg12.view.loc (c : Thread nD τ) ↦[arg12.view.set]{fullShare} harg12.unread r12) ∗ (arg13.view.loc (c : Thread nD τ) ↦[arg13.view.set]{fullShare} f13) ∗ (arg14.view.loc (c : Thread nD τ) ↦[arg14.view.set]{fullShare} f14)
      ∗ (iprop((arg3.view.loc (c : Thread nD τ) ↦[arg3.view.set]{fullShare} harg3.unread x2) ∗ (arg5.view.loc (c : Thread nD τ) ↦[arg5.view.set]{fullShare} harg5.unread T5) ∗ (arg6.view.loc (c : Thread nD τ) ↦[arg6.view.set]{fullShare} harg6.unread T6) ∗ (arg7.view.loc (c : Thread nD τ) ↦[arg7.view.set]{fullShare} harg7.unread T7) ∗ (arg8.view.loc (c : Thread nD τ) ↦[arg8.view.set]{fullShare} harg8.unread T8)
        ∗ (arg9.view.loc (c : Thread nD τ) ↦[arg9.view.set]{fullShare} harg9.unread r9) ∗ (arg10.view.loc (c : Thread nD τ) ↦[arg10.view.set]{fullShare} harg10.unread r10) ∗ (arg11.view.loc (c : Thread nD τ) ↦[arg11.view.set]{fullShare} harg11.unread r11) ∗ (arg12.view.loc (c : Thread nD τ) ↦[arg12.view.set]{fullShare} harg12.unread r12)
        ∗ (arg13.view.loc (c : Thread nD τ) ↦[arg13.view.set]{fullShare} harg13.unread (C13 v23 v29 v34 T5 T6 T7 T8 r9 r10 r11 r12)) ∗ (arg14.view.loc (c : Thread nD τ) ↦[arg14.view.set]{fullShare} harg14.unread (srt v23 v29 v34 T5 T6 T7 T8 r9 r10 r11 r12)))
        -∗ Q ⟨srt v23 v29 v34 T5 T6 T7 T8 r9 r10 r11 r12, k0_pay88 x2, k0_pay89 (srt v23 v29 v34 T5 T6 T7 T8 r9 r10 r11 r12) x2⟩))
    ⊢ wp frame (wpE (defs₀ (F := F)) 𝒱 (c : Thread nD τ) bd) E (k0_part8 i arg1 harg1 arg2 harg2 arg3 harg3 arg4 harg4 arg5 harg5 arg6 harg6 arg7 harg7 arg8 harg8 arg9 harg9 arg10 harg10 arg11 harg11 arg12 harg12 arg13 harg13 arg14 harg14 v23 v29 v34) Q := by
  rw [k0_part8_eq_skeleton]
  unfold k0_part8_skel
  iintro ⟨H3, H5, H6, H7, H8, H9, H10, H11, H12, H13, H14, Hk⟩
  sl_exec
  sl_step
  sl_unfold_words
  have e13 : arg13.view.writes (Elt F) f13 (pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 v23 v29 v34 (harg5.unread T5) (harg6.unread T6) (harg7.unread T7) (harg8.unread T8)
      (harg9.unread r9) (harg10.unread r10) (harg11.unread r11) (harg12.unread r12) (Scf.trips k0_t2_loop.lb k0_t2_loop.ub k0_t2_loop.st))
      = harg13.unread (C13 v23 v29 v34 T5 T6 T7 T8 r9 r10 r11 r12) := loop2_13 𝒱 c bd i arg1 harg1 arg2 harg2 arg3 harg3 arg4 harg4 arg5 harg5 arg6 harg6 arg7 harg7 arg8 harg8 arg9 harg9 arg10 harg10 arg11 harg11 arg12 harg12 arg13 harg13 arg14 harg14 v23 v29 v34 T5 T6 T7 T8 r9 r10 r11 r12 f13
  have q13 : View.readAt (Elt F) arg13.view (Rect.unit (s := S2048x256) ![0, 0] S2048x256.size inb_S2048x256_S2048x256_0_0).toLoadRect (harg13.unread (C13 v23 v29 v34 T5 T6 T7 T8 r9 r10 r11 r12))
      = C13 v23 v29 v34 T5 T6 T7 T8 r9 r10 r11 r12 := readAt_all arg13 harg13 hz2 _ _
  have q3 : View.readAt (Elt F) arg3.view (Rect.unit (s := S4x64x64) ![0, 0, 0] S4x64x64.size inb_S4x64x64_S4x64x64_0_0_0).toLoadRect (harg3.unread x2) = x2 :=
    readAt_all arg3 harg3 (funext fun a => by fin_cases a <;> rfl) _ _
  rw [e13, q13, q3]
  have hG : g14 arg14 harg14 (View.write (Elt F) (arg14.view.slice (Rect.unit (s := S2048x256) ![0, 0] S2048x256.size inb_S2048x256_S2048x256_0_0))
      (arg14.view.writes (Elt F) arg14.view.junk []) (k0_pay83 (C13 v23 v29 v34 T5 T6 T7 T8 r9 r10 r11 r12)) Finset.univ)
      (Scf.trips k0_t3_loop.lb k0_t3_loop.ub k0_t3_loop.st) = harg14.unread (srt v23 v29 v34 T5 T6 T7 T8 r9 r10 r11 r12) := by
    rw [show Scf.trips k0_t3_loop.lb k0_t3_loop.ub k0_t3_loop.st = 11 from trips3, g14_eq]
    refine congrArg harg14.unread (congrArg (fun X => lvls X 11) ?_)
    exact (congrArg _ (writes_all arg14 harg14 hz2 inb_S2048x256_S2048x256_0_0 arg14.view.junk _)).trans (harg14.read_unread _)
  rw [hG]
  have q14 : View.readAt (Elt F) arg14.view (Rect.unit (s := S2048x256) ![0, 0] S2048x256.size inb_S2048x256_S2048x256_0_0).toLoadRect (harg14.unread (srt v23 v29 v34 T5 T6 T7 T8 r9 r10 r11 r12))
      = srt v23 v29 v34 T5 T6 T7 T8 r9 r10 r11 r12 := readAt_all arg14 harg14 hz2 _ _
  rw [q14]
  iapply Hk
  isplitl [H3]; · iexact H3
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- Four column blocks of 64, side by side. -/
def cols (P : Fin 4 → Vec F S2048x64 .f32) : Vec F S2048x256 .f32 :=
  fun y => P ⟨(y 1).val / 64, by have : (y 1).val < 256 := (y 1).isLt; omega⟩
    (fun d => match d with | ⟨0, _⟩ => y 0 | ⟨1, _⟩ => ⟨(y 1).val % 64, Nat.mod_lt _ (by norm_num)⟩)

theorem cols_at (P : Fin 4 → Vec F S2048x64 .f32) (h : Fin 4) (y : S2048x256.Idx) (x : S2048x64.Idx)
    (hx : ∀ a, (y a).val = (![0, 64 * h.val] : Fin 2 → Nat) a + (x a).val) (w : Vec F S2048x64 .f32) (hw : w = P h) : w x = cols P y := by
  subst hw
  have h0 : (y 0).val = 0 + (x 0).val := hx 0
  have h1 : (y 1).val = 64 * h.val + (x 1).val := hx 1
  have hx1 : (x 1).val < 64 := (x 1).isLt
  have k0 : (⟨(y 1).val / 64, by have : (y 1).val < 256 := (y 1).isLt; omega⟩ : Fin 4) = h := Fin.ext (by show (y 1).val / 64 = h.val; omega)
  unfold cols
  rw [k0]
  congr 1
  funext d
  match d with
  | ⟨0, _⟩ => exact Fin.ext (by show (x 0).val = (y 0).val; omega)
  | ⟨1, _⟩ => exact Fin.ext (by show (x 1).val = (y 1).val % 64; omega)

/-- Four stores of column blocks fill the result. -/
theorem cols_writes (A : Memref sig .tc .vmem S2048x256 .f32) (h : A.IsWhole) (P : Fin 4 → Vec F S2048x64 .f32) (i0 i1 i2 i3) (f : A.view.ty.Contents (Elt F)) :
    A.view.writes (Elt F) f [⟨Rect.unit (s := S2048x256) ![0, 192] S2048x64.size i3, P 3⟩, ⟨Rect.unit (s := S2048x256) ![0, 128] S2048x64.size i2, P 2⟩,
      ⟨Rect.unit (s := S2048x256) ![0, 64] S2048x64.size i1, P 1⟩, ⟨Rect.unit (s := S2048x256) ![0, 0] S2048x64.size i0, P 0⟩]
      = h.unread (cols P) := by
  apply h.eq_unread
  funext y
  have y0 : (y 0).val < 2048 := (y 0).isLt
  have y1 : (y 1).val < 256 := (y 1).isLt
  have mem : ∀ (o : Nat) (inb : ∀ a, (![0, o] : Fin 2 → Nat) a + S2048x64.size a ≤ S2048x256.size a), o ≤ (y 1).val → (y 1).val < o + 64 →
      y ∈ (Rect.unit (s := S2048x256) ![0, o] S2048x64.size inb).set := by
    intro o inb ha hb
    rw [Rect.mem_set_unit]
    intro a
    fin_cases a
    · show 0 ≤ (y 0).val ∧ (y 0).val < 0 + 2048; omega
    · show o ≤ (y 1).val ∧ (y 1).val < o + 64; omega
  have hc : ∃ p ∈ ([⟨Rect.unit (s := S2048x256) ![0, 192] S2048x64.size i3, P 3⟩, ⟨Rect.unit (s := S2048x256) ![0, 128] S2048x64.size i2, P 2⟩,
      ⟨Rect.unit (s := S2048x256) ![0, 64] S2048x64.size i1, P 1⟩, ⟨Rect.unit (s := S2048x256) ![0, 0] S2048x64.size i0, P 0⟩] : List (View.Piece (Elt F) S2048x256 .f32)), y ∈ p.1.set := by
    by_cases h3 : 192 ≤ (y 1).val
    · exact ⟨_, List.mem_cons_self, mem 192 i3 h3 (by omega)⟩
    by_cases h2 : 128 ≤ (y 1).val
    · exact ⟨_, List.mem_cons_of_mem _ List.mem_cons_self, mem 128 i2 h2 (by omega)⟩
    by_cases h1 : 64 ≤ (y 1).val
    · exact ⟨_, List.mem_cons_of_mem _ (List.mem_cons_of_mem _ List.mem_cons_self), mem 64 i1 h1 (by omega)⟩
    · exact ⟨_, List.mem_cons_of_mem _ (List.mem_cons_of_mem _ (List.mem_cons_of_mem _ List.mem_cons_self)), mem 0 i0 (by omega) (by omega)⟩
  rw [View.read_writes_apply_eq_canon _ _ _ _ hc]
  refine View.canon_eq_of_allAt _ _ _ hc ?_
  refine View.allAt_cons_unit _ _ _ _ _ (fun x hx => cols_at P 3 y x hx _ rfl) ?_
  refine View.allAt_cons_unit _ _ _ _ _ (fun x hx => cols_at P 2 y x hx _ rfl) ?_
  refine View.allAt_cons_unit _ _ _ _ _ (fun x hx => cols_at P 1 y x hx _ rfl) ?_
  refine View.allAt_cons_unit _ _ _ _ _ (fun x hx => cols_at P 0 y x hx _ rfl) ?_
  exact View.allAt_nil _ _

/-- The sorted scores from the staged blocks and the tables. -/
def srtOf (x0 x1 : Vec F S2048x256 .f32) (T5 T6 T7 T8 : Vec F S1024x2048 .bf16) : Vec F S2048x256 .bf16 :=
  srt (k0_pay69 x0 x1) (k0_pay79 (row0 (R9 x0 x1 T5 T6 T7 T8)) (row0 (R10 x0 x1 T5 T6 T7 T8))) k0_pay80 T5 T6 T7 T8
    (R9 x0 x1 T5 T6 T7 T8) (R10 x0 x1 T5 T6 T7 T8) (R11 x0 x1 T5 T6 T7 T8) (R12 x0 x1 T5 T6 T7 T8)

/-- The result block from the sorted scores and the value block. -/
def outOf (W : Vec F S2048x256 .bf16) (x2 : Vec F S4x64x64 .f32) : Vec F S2048x256 .f32 :=
  cols ![k0_pay89 W x2, k0_pay1 W (k0_pay88 x2), k0_pay2 W (k0_pay88 x2), k0_pay3 W (k0_pay88 x2)]

/-- The body once its first half is known: the rest of it. -/
theorem tail_ok (𝒱 : Variants) (c : Dev nD) (bd : Option 𝒱.V) (E : Set ℕ) (i : grid0.Coords) (arg1 : Memref sig .tc .vmem S2048x256 .f32) (harg1 : arg1.IsWhole) (arg2 : Memref sig .tc .vmem S2048x256 .f32) (harg2 : arg2.IsWhole) (arg3 : Memref sig .tc .vmem S4x64x64 .f32) (harg3 : arg3.IsWhole) (arg4 : Memref sig .tc .vmem S2048x256 .f32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S1024x256 .bf16) (harg11 : arg11.IsWhole) (arg12 : Memref sig .tc .vmem S1024x256 .bf16) (harg12 : arg12.IsWhole) (arg13 : Memref sig .tc .vmem S2048x256 .f32) (harg13 : arg13.IsWhole) (arg14 : Memref sig .tc .vmem S2048x256 .bf16) (harg14 : arg14.IsWhole) (K : PUnit → sProp 𝕄)
    (x0 x1 : Vec F S2048x256 .f32) (x2 : Vec F S4x64x64 .f32) (T5 T6 T7 T8 : Vec F S1024x2048 .bf16)
    (f4 : arg4.view.ty.Contents (Elt F)) (f13 : arg13.view.ty.Contents (Elt F)) (f14 : arg14.view.ty.Contents (Elt F))
    (pre : sProp 𝕄)
    (h7 : ∀ Q : (Σ' (v23 : FVec F S1x256 .f32) (v29 : FVec F S1x256 .f32), IVec S256x1 1) → sProp 𝕄, iprop(pre
      ∗ (iprop((arg1.view.loc (c : Thread nD τ) ↦[arg1.view.set]{fullShare} harg1.unread x0) ∗ (arg2.view.loc (c : Thread nD τ) ↦[arg2.view.set]{fullShare} harg2.unread x1) ∗ (arg5.view.loc (c : Thread nD τ) ↦[arg5.view.set]{fullShare} harg5.unread T5) ∗ (arg6.view.loc (c : Thread nD τ) ↦[arg6.view.set]{fullShare} harg6.unread T6) ∗ (arg7.view.loc (c : Thread nD τ) ↦[arg7.view.set]{fullShare} harg7.unread T7) ∗ (arg8.view.loc (c : Thread nD τ) ↦[arg8.view.set]{fullShare} harg8.unread T8)
        ∗ (arg9.view.loc (c : Thread nD τ) ↦[arg9.view.set]{fullShare} harg9.unread (R9 x0 x1 T5 T6 T7 T8)) ∗ (arg10.view.loc (c : Thread nD τ) ↦[arg10.view.set]{fullShare} harg10.unread (R10 x0 x1 T5 T6 T7 T8)) ∗ (arg11.view.loc (c : Thread nD τ) ↦[arg11.view.set]{fullShare} harg11.unread (R11 x0 x1 T5 T6 T7 T8)) ∗ (arg12.view.loc (c : Thread nD τ) ↦[arg12.view.set]{fullShare} harg12.unread (R12 x0 x1 T5 T6 T7 T8)))
        -∗ Q ⟨k0_pay69 x0 x1, k0_pay79 (row0 (R9 x0 x1 T5 T6 T7 T8)) (row0 (R10 x0 x1 T5 T6 T7 T8)), k0_pay80⟩))
      ⊢ wp frame (wpE (defs₀ (F := F)) 𝒱 (c : Thread nD τ) bd) E (k0_part7 i arg1 harg1 arg2 harg2 arg3 harg3 arg4 harg4 arg5 harg5 arg6 harg6 arg7 harg7 arg8 harg8 arg9 harg9 arg10 harg10 arg11 harg11 arg12 harg12 arg13 harg13 arg14 harg14) Q) :
    iprop(pre ∗ (arg3.view.loc (c : Thread nD τ) ↦[arg3.view.set]{fullShare} harg3.unread x2) ∗ (arg4.view.loc (c : Thread nD τ) ↦[arg4.view.set]{fullShare} f4) ∗ (arg13.view.loc (c : Thread nD τ) ↦[arg13.view.set]{fullShare} f13) ∗ (arg14.view.loc (c : Thread nD τ) ↦[arg14.view.set]{fullShare} f14)
      ∗ (iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread (outOf (srtOf x0 x1 T5 T6 T7 T8) x2))
        ∗ (arg5.view.loc (c : Thread nD τ) ↦[arg5.view.set]{fullShare} harg5.unread T5) ∗ (arg6.view.loc (c : Thread nD τ) ↦[arg6.view.set]{fullShare} harg6.unread T6) ∗ (arg7.view.loc (c : Thread nD τ) ↦[arg7.view.set]{fullShare} harg7.unread T7) ∗ (arg8.view.loc (c : Thread nD τ) ↦[arg8.view.set]{fullShare} harg8.unread T8)
        ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f))) -∗ K ⟨⟩))
    ⊢ wp frame (wpE (defs₀ (F := F)) 𝒱 (c : Thread nD τ) bd) E (cc0__body i arg1 harg1 arg2 harg2 arg3 harg3 arg4 harg4 arg5 harg5 arg6 harg6 arg7 harg7 arg8 harg8 arg9 harg9 arg10 harg10 arg11 harg11 arg12 harg12 arg13 harg13 arg14 harg14) K := by
  rw [cc0__body_eq_skeleton]
  unfold cc0__body_skel
  rw [wp_bind]
  iintro ⟨HP, H3, H4, H13, H14, Hk⟩
  iapply (h7 _)
  isplitl [HP]; · iexact HP
  iintro ⟨H1, H2, H5, H6, H7, H8, H9, H10, H11, H12⟩
  dsimp only
  rw [wp_bind]
  iapply (part8_ok 𝒱 c bd E i arg1 harg1 arg2 harg2 arg3 harg3 arg4 harg4 arg5 harg5 arg6 harg6 arg7 harg7 arg8 harg8 arg9 harg9 arg10 harg10 arg11 harg11 arg12 harg12 arg13 harg13 arg14 harg14 _ _ _ _ x2 T5 T6 T7 T8 (R9 x0 x1 T5 T6 T7 T8) (R10 x0 x1 T5 T6 T7 T8) (R11 x0 x1 T5 T6 T7 T8) (R12 x0 x1 T5 T6 T7 T8) f13 f14)
  isplitl [H3]; · iexact H3
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H3, H5, H6, H7, H8, H9, H10, H11, H12, H13, H14⟩
  dsimp only
  sl_exec
  sl_step
  have e4 := cols_writes (F := F) arg4 harg4 ![k0_pay89 (srtOf x0 x1 T5 T6 T7 T8) x2, k0_pay1 (srtOf x0 x1 T5 T6 T7 T8) (k0_pay88 x2), k0_pay2 (srtOf x0 x1 T5 T6 T7 T8) (k0_pay88 x2), k0_pay3 (srtOf x0 x1 T5 T6 T7 T8) (k0_pay88 x2)]
    inb_S2048x256_S2048x64_0_0 inb_S2048x256_S2048x64_0_64 inb_S2048x256_S2048x64_0_128 inb_S2048x256_S2048x64_0_192 f4
  unfold outOf
  rw [← e4]
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

/-- The body at the first grid point, on whole buffers. -/
theorem run_first (𝒱 : Variants) (c : Dev nD) (bd : Option 𝒱.V) (E : Set ℕ) (i : grid0.Coords) (arg1 : Memref sig .tc .vmem S2048x256 .f32) (harg1 : arg1.IsWhole) (arg2 : Memref sig .tc .vmem S2048x256 .f32) (harg2 : arg2.IsWhole) (arg3 : Memref sig .tc .vmem S4x64x64 .f32) (harg3 : arg3.IsWhole) (arg4 : Memref sig .tc .vmem S2048x256 .f32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S1024x256 .bf16) (harg11 : arg11.IsWhole) (arg12 : Memref sig .tc .vmem S1024x256 .bf16) (harg12 : arg12.IsWhole) (arg13 : Memref sig .tc .vmem S2048x256 .f32) (harg13 : arg13.IsWhole) (arg14 : Memref sig .tc .vmem S2048x256 .bf16) (harg14 : arg14.IsWhole) (hc : cond0 i) (K : PUnit → sProp 𝕄)
    (x0 x1 : Vec F S2048x256 .f32) (x2 : Vec F S4x64x64 .f32) :
    iprop(owns (c : Thread nD τ) arg1 fullShare (x0) ∗ owns (c : Thread nD τ) arg2 fullShare (x1) ∗ owns (c : Thread nD τ) arg3 fullShare (x2) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
      ∗ (iprop(owns (c : Thread nD τ) arg1 fullShare (x0) ∗ owns (c : Thread nD τ) arg2 fullShare (x1) ∗ owns (c : Thread nD τ) arg3 fullShare (x2) ∗ owns (c : Thread nD τ) arg4 fullShare (outOf (srtOf x0 x1 Tb5 Tb6 Tb7 Tb8) x2) ∗ owns (c : Thread nD τ) arg5 fullShare (Tb5) ∗ owns (c : Thread nD τ) arg6 fullShare (Tb6) ∗ owns (c : Thread nD τ) arg7 fullShare (Tb7) ∗ owns (c : Thread nD τ) arg8 fullShare (Tb8) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
    ⊢ wp frame (wpE (defs₀ (F := F)) 𝒱 (c : Thread nD τ) bd) E (cc0__body i arg1 harg1 arg2 harg2 arg3 harg3 arg4 harg4 arg5 harg5 arg6 harg6 arg7 harg7 arg8 harg8 arg9 harg9 arg10 harg10 arg11 harg11 arg12 harg12 arg13 harg13 arg14 harg14) K := by
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := harg1.eq_unread hf1; obtain rfl := harg2.eq_unread hf2; obtain rfl := harg3.eq_unread hf3
  iapply (tail_ok 𝒱 c bd E i arg1 harg1 arg2 harg2 arg3 harg3 arg4 harg4 arg5 harg5 arg6 harg6 arg7 harg7 arg8 harg8 arg9 harg9 arg10 harg10 arg11 harg11 arg12 harg12 arg13 harg13 arg14 harg14 K x0 x1 x2 Tb5 Tb6 Tb7 Tb8 f4 f13 f14
    iprop((arg1.view.loc (c : Thread nD τ) ↦[arg1.view.set]{fullShare} harg1.unread x0) ∗ (arg2.view.loc (c : Thread nD τ) ↦[arg2.view.set]{fullShare} harg2.unread x1) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) (fun Q => (by
      iintro ⟨⟨H1, H2, H5, H6, H7, H8, H9, H10, H11, H12⟩, Hk⟩
      iapply (part7_first 𝒱 c bd E i arg1 harg1 arg2 harg2 arg3 harg3 arg4 harg4 arg5 harg5 arg6 harg6 arg7 harg7 arg8 harg8 arg9 harg9 arg10 harg10 arg11 harg11 arg12 harg12 arg13 harg13 arg14 harg14 hc Q x0 x1 f5 f6 f7 f8 f9 f10 f11 f12)
      isplitl [H1]; · iexact H1
      isplitl [H2]; · iexact H2
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact Hk)))
  isplitl [H1 H2 H5 H6 H7 H8 H9 H10 H11 H12]
  · isplitl [H1]; · iexact H1
    isplitl [H2]; · iexact H2
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [H3]; · iexact H3
  isplitl [H4]; · iexact H4
  isplitl [H13]; · iexact H13
  isplitl [H14]; · iexact H14
  iintro ⟨H1, H2, H3, H4, H5, H6, H7, H8, ⟨%g9, H9⟩, ⟨%g10, H10⟩, ⟨%g11, H11⟩, ⟨%g12, H12⟩, ⟨%g13, H13⟩, ⟨%g14, H14⟩⟩
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

/-- The body at a later grid point, on whole buffers. -/
theorem run_later (𝒱 : Variants) (c : Dev nD) (bd : Option 𝒱.V) (E : Set ℕ) (i : grid0.Coords) (arg1 : Memref sig .tc .vmem S2048x256 .f32) (harg1 : arg1.IsWhole) (arg2 : Memref sig .tc .vmem S2048x256 .f32) (harg2 : arg2.IsWhole) (arg3 : Memref sig .tc .vmem S4x64x64 .f32) (harg3 : arg3.IsWhole) (arg4 : Memref sig .tc .vmem S2048x256 .f32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S1024x256 .bf16) (harg11 : arg11.IsWhole) (arg12 : Memref sig .tc .vmem S1024x256 .bf16) (harg12 : arg12.IsWhole) (arg13 : Memref sig .tc .vmem S2048x256 .f32) (harg13 : arg13.IsWhole) (arg14 : Memref sig .tc .vmem S2048x256 .bf16) (harg14 : arg14.IsWhole) (hc : ¬cond0 i) (K : PUnit → sProp 𝕄)
    (x0 x1 : Vec F S2048x256 .f32) (x2 : Vec F S4x64x64 .f32) :
    iprop(owns (c : Thread nD τ) arg1 fullShare (x0) ∗ owns (c : Thread nD τ) arg2 fullShare (x1) ∗ owns (c : Thread nD τ) arg3 fullShare (x2) ∗ (∃ d, owns (c : Thread nD τ) arg4 fullShare d) ∗ owns (c : Thread nD τ) arg5 fullShare (Tb5) ∗ owns (c : Thread nD τ) arg6 fullShare (Tb6) ∗ owns (c : Thread nD τ) arg7 fullShare (Tb7) ∗ owns (c : Thread nD τ) arg8 fullShare (Tb8) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
      ∗ (iprop(owns (c : Thread nD τ) arg1 fullShare (x0) ∗ owns (c : Thread nD τ) arg2 fullShare (x1) ∗ owns (c : Thread nD τ) arg3 fullShare (x2) ∗ owns (c : Thread nD τ) arg4 fullShare (outOf (srtOf x0 x1 Tb5 Tb6 Tb7 Tb8) x2) ∗ owns (c : Thread nD τ) arg5 fullShare (Tb5) ∗ owns (c : Thread nD τ) arg6 fullShare (Tb6) ∗ owns (c : Thread nD τ) arg7 fullShare (Tb7) ∗ owns (c : Thread nD τ) arg8 fullShare (Tb8) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
    ⊢ wp frame (wpE (defs₀ (F := F)) 𝒱 (c : Thread nD τ) bd) E (cc0__body i arg1 harg1 arg2 harg2 arg3 harg3 arg4 harg4 arg5 harg5 arg6 harg6 arg7 harg7 arg8 harg8 arg9 harg9 arg10 harg10 arg11 harg11 arg12 harg12 arg13 harg13 arg14 harg14) K := by
  unfold owns
  iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := harg1.eq_unread hf1; obtain rfl := harg2.eq_unread hf2; obtain rfl := harg3.eq_unread hf3; obtain rfl := harg5.eq_unread hf5; obtain rfl := harg6.eq_unread hf6; obtain rfl := harg7.eq_unread hf7; obtain rfl := harg8.eq_unread hf8
  iapply (tail_ok 𝒱 c bd E i arg1 harg1 arg2 harg2 arg3 harg3 arg4 harg4 arg5 harg5 arg6 harg6 arg7 harg7 arg8 harg8 arg9 harg9 arg10 harg10 arg11 harg11 arg12 harg12 arg13 harg13 arg14 harg14 K x0 x1 x2 Tb5 Tb6 Tb7 Tb8 f4 f13 f14
    iprop((arg1.view.loc (c : Thread nD τ) ↦[arg1.view.set]{fullShare} harg1.unread x0) ∗ (arg2.view.loc (c : Thread nD τ) ↦[arg2.view.set]{fullShare} harg2.unread x1) ∗ (arg5.view.loc (c : Thread nD τ) ↦[arg5.view.set]{fullShare} harg5.unread Tb5) ∗ (arg6.view.loc (c : Thread nD τ) ↦[arg6.view.set]{fullShare} harg6.unread Tb6) ∗ (arg7.view.loc (c : Thread nD τ) ↦[arg7.view.set]{fullShare} harg7.unread Tb7) ∗ (arg8.view.loc (c : Thread nD τ) ↦[arg8.view.set]{fullShare} harg8.unread Tb8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) (fun Q => (by
      iintro ⟨⟨H1, H2, H5, H6, H7, H8, H9, H10, H11, H12⟩, Hk⟩
      iapply (part7_later 𝒱 c bd E i arg1 harg1 arg2 harg2 arg3 harg3 arg4 harg4 arg5 harg5 arg6 harg6 arg7 harg7 arg8 harg8 arg9 harg9 arg10 harg10 arg11 harg11 arg12 harg12 arg13 harg13 arg14 harg14 hc Q x0 x1 Tb5 Tb6 Tb7 Tb8 f9 f10 f11 f12)
      isplitl [H1]; · iexact H1
      isplitl [H2]; · iexact H2
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact Hk)))
  isplitl [H1 H2 H5 H6 H7 H8 H9 H10 H11 H12]
  · isplitl [H1]; · iexact H1
    isplitl [H2]; · iexact H2
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [H3]; · iexact H3
  isplitl [H4]; · iexact H4
  isplitl [H13]; · iexact H13
  isplitl [H14]; · iexact H14
  iintro ⟨H1, H2, H3, H4, H5, H6, H7, H8, ⟨%g9, H9⟩, ⟨%g10, H10⟩, ⟨%g11, H11⟩, ⟨%g12, H12⟩, ⟨%g13, H13⟩, ⟨%g14, H14⟩⟩
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

end Cert.KernelIdeal.Gen
end
-- ==== Proof.KI.Run.lean ====
module

public import proofs.«01_k».proof.Proof.KI.Body
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first point of the grid is the one the tables are stored at. -/
theorem hcond0 : ∀ t : Fin cfg0.N, cond0 (grid0.coords t) ↔ t.val = 0 :=
  (fun t => by
    have ht : t.val < 3 := Nat.lt_of_lt_of_eq t.isLt N_0
    have e0 : (grid0.coords t 0).val = t.val / 1 % 3 := Pipeline.Grid.coords_val t 0 (by decide) rfl
    have h : cond0 (grid0.coords t) ↔ t.val % 3 = 0 := by
      simp only [cond0, e0]
      word_cmp
    rw [h]; omega
   : ∀ t : Fin grid0.N, cond0 (grid0.coords t) ↔ t.val = 0)

abbrev sg0 (t : Fin cfg0.N) : Memref sig .tc .vmem S2048x256 .f32 := win0_0.stage (cfg0.slots t 0)
abbrev sg1 (t : Fin cfg0.N) : Memref sig .tc .vmem S2048x256 .f32 := win0_1.stage (cfg0.slots t 1)
abbrev sg2 (t : Fin cfg0.N) : Memref sig .tc .vmem S4x64x64 .f32 := win0_2.stage (cfg0.slots t 2)
abbrev sg3 (t : Fin cfg0.N) : Memref sig .tc .vmem S2048x256 .f32 := win0_3.stage (cfg0.slots t 3)
abbrev sc0 : Memref sig .tc .vmem S1024x2048 .bf16 := Memref.whole cc0_scratch0
abbrev sc1 : Memref sig .tc .vmem S1024x2048 .bf16 := Memref.whole cc0_scratch1
abbrev sc2 : Memref sig .tc .vmem S1024x2048 .bf16 := Memref.whole cc0_scratch2
abbrev sc3 : Memref sig .tc .vmem S1024x2048 .bf16 := Memref.whole cc0_scratch3
abbrev sc4 : Memref sig .tc .vmem S1024x256 .bf16 := Memref.whole cc0_scratch4
abbrev sc5 : Memref sig .tc .vmem S1024x256 .bf16 := Memref.whole cc0_scratch5
abbrev sc6 : Memref sig .tc .vmem S1024x256 .bf16 := Memref.whole cc0_scratch6
abbrev sc7 : Memref sig .tc .vmem S1024x256 .bf16 := Memref.whole cc0_scratch7
abbrev sc8 : Memref sig .tc .vmem S2048x256 .f32 := Memref.whole cc0_scratch8
abbrev sc9 : Memref sig .tc .vmem S2048x256 .bf16 := Memref.whole cc0_scratch9

/-- The scratch at any contents. -/
theorem scratch_any (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d)) ∗ (∃ r, prngReg c r)) := by
  unfold Pipeline.ΦA; rw [scopedRest0_eq]; simp only [sc0, sc1, sc2, sc3, sc4, sc5, sc6, sc7, sc8, sc9, owns_whole]; try rfl

/-- The scratch between points: anything before the first, the tables in place after it. -/
def Inv (c : Dev nD) : (n : ℕ) → sProp 𝕄
  | 0 => Pipeline.ΦA spec0 c
  | _ + 1 => iprop(iprop(owns (c : Thread nD τ) sc0 fullShare Tb5 ∗ owns (c : Thread nD τ) sc1 fullShare Tb6 ∗ owns (c : Thread nD τ) sc2 fullShare Tb7 ∗ owns (c : Thread nD τ) sc3 fullShare Tb8 ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d)) ∗ (∃ r, prngReg c r))

theorem Inv_pos (c : Dev nD) (n : ℕ) (hz : n ≠ 0) : (Inv c n : sProp 𝕄) = iprop(iprop(owns (c : Thread nD τ) sc0 fullShare Tb5 ∗ owns (c : Thread nD τ) sc1 fullShare Tb6 ∗ owns (c : Thread nD τ) sc2 fullShare Tb7 ∗ owns (c : Thread nD τ) sc3 fullShare Tb8 ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d)) ∗ (∃ r, prngReg c r)) := by
  cases n with
  | zero => exact absurd rfl hz
  | succ n => rfl

/-- The result block at a grid point. -/
def outAt (c : Dev nD) (t : Fin cfg0.N) : Vec F S2048x256 .f32 :=
  outOf (srtOf (iblk m c 0 t) (iblk m c 1 t) Tb5 Tb6 Tb7 Tb8) (iblk m c 2 t)

/-- What every buffer of the pipeline holds before and after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := Inv c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Inv c t.val := by
  dsimp only [dats]; rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The body's precondition at a point, -/
def bPre (c : Dev nD) (t : Fin cfg0.N) : sProp 𝕄 :=
  iprop((dats m 0 c).Φ t.castSucc ∗ (dats m 0 c).owesAt () t.castSucc
    ∗ (∃ d, owns (c : Thread nD τ) (sg0 t) fullShare ((dats m 0 c).before 0 t d))
    ∗ (∃ d, owns (c : Thread nD τ) (sg1 t) fullShare ((dats m 0 c).before 1 t d))
    ∗ (∃ d, owns (c : Thread nD τ) (sg2 t) fullShare ((dats m 0 c).before 2 t d))
    ∗ (∃ d, owns (c : Thread nD τ) (sg3 t) fullShare ((dats m 0 c).before 3 t d)))

/-- and its postcondition. -/
def bPost (c : Dev nD) (t : Fin cfg0.N) : sProp 𝕄 :=
  iprop((dats m 0 c).Φ t.succ ∗ (dats m 0 c).owesAt () t.succ
    ∗ owns (c : Thread nD τ) (sg0 t) fullShare ((dats m 0 c).after 0 t)
    ∗ owns (c : Thread nD τ) (sg1 t) fullShare ((dats m 0 c).after 1 t)
    ∗ owns (c : Thread nD τ) (sg2 t) fullShare ((dats m 0 c).after 2 t)
    ∗ owns (c : Thread nD τ) (sg3 t) fullShare ((dats m 0 c).after 3 t))

set_option maxHeartbeats 9600000 in
/-- The body at any point. -/
theorem body_sound (c : Dev nD) (t : Fin cfg0.N) :
    bPre m c t ⊢ wp frame (wpE (defs₀ (F := F)) Variants.none c none) Set.univ (bodyAt0 t) (fun _ => bPost m c t) := by
  unfold bPre bPost bodyAt0
  simp only [before_0, before_1, before_2]
  rw [show (dats m 0 c).owesAt () t.succ = (dats m 0 c).owesAt () t.castSucc from rfl,
    after_0, after_1, after_2, after_3]
  rw [show (dats m 0 c).Φ t.succ = Inv c (t.val + 1) from rfl, Inv_pos c (t.val + 1) (by omega), Phi_castSucc m c t]
  unfold outAt
  by_cases hz : t.val = 0
  · rw [hz, show (Inv c 0 : sProp 𝕄) = _ from scratch_any c]
    iintro ⟨⟨⟨HS0, HS1, HS2, HS3, HS4, HS5, HS6, HS7, HS8, HS9⟩, Hg⟩, Ho, ⟨%d0, H0⟩, ⟨%d1, H1⟩, ⟨%d2, H2⟩, ⟨%d3, H3⟩⟩
    iapply (run_first Variants.none c none Set.univ (grid0.coords t) _ _ _ _ _ _ _ _ _ _ _ _ _ _ _ _ _ _ _ _ _ _ _ _ _ _ _ _ ((hcond0 t).mpr hz) _ (iblk m c 0 t) (iblk m c 1 t) (iblk m c 2 t))
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    iintro ⟨H0, H1, H2, H3, HS0, HS1, HS2, HS3, HS4, HS5, HS6, HS7, HS8, HS9⟩
    isplitl [HS0 HS1 HS2 HS3 HS4 HS5 HS6 HS7 HS8 HS9 Hg]
    · isplitl [HS0 HS1 HS2 HS3 HS4 HS5 HS6 HS7 HS8 HS9]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        iexact HS9
      iexact Hg
    isplitl [Ho]; · iexact Ho
    isplitl [H0]; · iexact H0
    isplitl [H1]; · iexact H1
    isplitl [H2]; · iexact H2
    iexact H3
  · rw [Inv_pos c t.val hz]
    iintro ⟨⟨⟨HS0, HS1, HS2, HS3, HS4, HS5, HS6, HS7, HS8, HS9⟩, Hg⟩, Ho, ⟨%d0, H0⟩, ⟨%d1, H1⟩, ⟨%d2, H2⟩, ⟨%d3, H3⟩⟩
    iapply (run_later Variants.none c none Set.univ (grid0.coords t) _ _ _ _ _ _ _ _ _ _ _ _ _ _ _ _ _ _ _ _ _ _ _ _ _ _ _ _ (fun h => hz ((hcond0 t).mp h)) _ (iblk m c 0 t) (iblk m c 1 t) (iblk m c 2 t))
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    iintro ⟨H0, H1, H2, H3, HS0, HS1, HS2, HS3, HS4, HS5, HS6, HS7, HS8, HS9⟩
    isplitl [HS0 HS1 HS2 HS3 HS4 HS5 HS6 HS7 HS8 HS9 Hg]
    · isplitl [HS0 HS1 HS2 HS3 HS4 HS5 HS6 HS7 HS8 HS9]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        iexact HS9
      iexact Hg
    isplitl [Ho]; · iexact Ho
    isplitl [H0]; · iexact H0
    isplitl [H1]; · iexact H1
    isplitl [H2]; · iexact H2
    iexact H3

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (body_sound m c t) rfl .rfl fun _ => .rfl

theorem inv_in (c : Dev nD) : Pipeline.ΦA spec0 c ⊢ (dats m 0 c).Φ 0 := by
  rw [show (dats m 0 c).Φ 0 = Pipeline.ΦA spec0 c from rfl]
  try exact Idealize.SL.BI.Entails.refl _

theorem inv_out (c : Dev nD) : (dats m 0 c).Φ (Fin.last cfg0.N) ⊢ Pipeline.ΦA spec0 c := by
  rw [show (dats m 0 c).Φ (Fin.last cfg0.N) = Inv c (Fin.last cfg0.N).val from rfl,
    Inv_pos c _ (by rw [Fin.val_last]; have : cfg0.N = 3 := N_0; omega), scratch_any]
  iintro ⟨⟨HS0, HS1, HS2, HS3, HS4, HS5, HS6, HS7, HS8, HS9⟩, Hg⟩
  isplitl [HS0 HS1 HS2 HS3 HS4 HS5 HS6 HS7 HS8 HS9]
  · isplitl [HS0]; · iexists _; iexact HS0
    isplitl [HS1]; · iexists _; iexact HS1
    isplitl [HS2]; · iexists _; iexact HS2
    isplitl [HS3]; · iexists _; iexact HS3
    isplitl [HS4]; · iexact HS4
    isplitl [HS5]; · iexact HS5
    isplitl [HS6]; · iexact HS6
    isplitl [HS7]; · iexact HS7
    isplitl [HS8]; · iexact HS8
    iexact HS9
  iexact Hg

-- the launch's implicit arguments are found by unifying its conclusion with this one
set_option backward.isDefEq.respectTransparency.types false in
set_option maxHeartbeats 800000 in
/-- The launch: every buffer at its named contents, every counter at zero. -/
theorem run_track : θ_run defs (onTc (τ := τ) (main (F := F))) (s₀ m ρ) (fun r =>
    Pipeline.FramePost cfgs (dats m) (0 : Fin 1) (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := inv_out m) (hQ' := fun _ h => h)

/-- The run with the result named: what the host lines after the region leave, the arguments unchanged, every counter at zero. -/
theorem run_named : θ_run defs (onTc (τ := τ) (main (F := F))) ⟨m, fun _ => 0, ρ⟩ (fun r => (∀ c : Dev nD,
      r.2.mem ((c.tc : Thread nD τ).loc main_v11) = Pipeline.afterTail₀ cfgs (dats m) 0 (V0 m) [hostOps1] c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).2 main_v11 (Pipeline.mem_restRefs_of main_v11 (by decide) (by decide)),
    ((h.1 c).2 main_arg0 (Pipeline.mem_restRefs_of main_arg0 (by decide) (by decide))).trans (W_main_arg0 m (dats m) c),
    ((h.1 c).2 main_arg1 (Pipeline.mem_restRefs_of main_arg1 (by decide) (by decide))).trans (W_main_arg1 m (dats m) c),
    ((h.1 c).2 main_arg2 (Pipeline.mem_restRefs_of main_arg2 (by decide) (by decide))).trans (W_main_arg2 m (dats m) c)⟩, h.2⟩) (run_track m ρ)

end Cert.KernelIdeal.Gen
end
-- ==== Proof.Val.Finite.lean ====
/- What the precondition gives: real entries. -/
module

public import proofs.«01_k».proof.Defs
public import proofs.«01_k».proof.Proof.Gen.KernelIdeal
public import Idealize.ShloMosaic.PureOps.Ideal.Laws
public import Idealize.ShloMosaic.Lib.ReduceAll
public import Idealize.ShloMosaic.Lib.Affine
public import Idealize.ShloMosaic.Lib.Pipeline.Value
public import Idealize.ShloMosaic.Lib.ValueIdx

@[expose] public section

set_option maxRecDepth 16384

noncomputable section

namespace Cert.Pre_finite

open Idealize.ShloMosaic
open Idealize.ShloMosaic.ValueIdx

/-- The side conditions the precondition states. -/
instance facts : Facts where
  bcast_S_S1x12x2048x64 := by decide
  reducesTo_S1x12x2048x64_S_d0_1_2_3 := by decide
  h_S_ := by decide
  slices_S1x12x2048x64_S1x12x64x64_0_0_0_0 := by decide
  bcast_S_S1x12x64x64 := by decide
  reducesTo_S1x12x64x64_S_d0_1_2_3 := by decide

theorem word_top : Ideal.ofBits .f32 0x7F800000#32 = ⊤ := by
  simp [Ideal.ofBits, Ideal.ieee]

/-- A value whose magnitude is below the top is real. -/
theorem real_of_lt (x : EReal) (h : BitVec.ofBool (decide (max x (-x) < (⊤ : EReal))) = 1#1) : x = ((x.toReal : ℝ) : EReal) := by
  have h1 : max x (-x) < ⊤ := by
    by_contra hc
    rw [decide_eq_false hc] at h
    exact absurd h (by decide)
  refine (EReal.coe_toReal ?_ ?_).symm
  · rintro rfl
    exact absurd h1 (by simp)
  · rintro rfl
    exact absurd h1 (by simp)

/-- The scalar index. -/
abbrev nil : S_.Idx := fun a => a.elim0

theorem nil_unique (i : S_.Idx) : i = nil := funext fun a => a.elim0

/-- The precondition taken apart. -/
theorem reals (A0 A1 A2 : FVec Ideal S1x12x2048x64 .f32) (h : fn (F := Ideal) A0 A1 A2 = fun _ => 1#1) :
    (∀ i, A0 i = (((A0 i).toReal : ℝ) : EReal)) ∧ (∀ i, A1 i = (((A1 i).toReal : ℝ) : EReal))
    ∧ ∀ (g : Fin 12) (d e : Fin 64), A2 (ix4 (0 : Fin 1) g (⟨d.val, Nat.lt_of_lt_of_le d.isLt (by decide)⟩ : Fin 2048) e)
        = (((A2 (ix4 (0 : Fin 1) g (⟨d.val, Nat.lt_of_lt_of_le d.isLt (by decide)⟩ : Fin 2048) e)).toReal : ℝ) : EReal) := by
  have e := congrFun h nil
  dsimp only [fn, andi] at e
  obtain ⟨e01, e2⟩ := IntOp.andi_eq_one.1 e
  obtain ⟨e0, e1⟩ := IntOp.andi_eq_one.1 e01
  haveI : Subsingleton S_.Idx := ⟨fun i j => (nil_unique i).trans (nil_unique j).symm⟩
  refine ⟨fun i => ?_, fun i => ?_, fun g d e => ?_⟩
  · have k := Host.reduce_andi_all _ _ _ _ _ e0 i
    refine real_of_lt _ ?_
    rw [← word_top]
    exact k
  · have k := Host.reduce_andi_all _ _ _ _ _ e1 i
    refine real_of_lt _ ?_
    rw [← word_top]
    exact k
  · have k := Host.reduce_andi_all _ _ _ _ _ e2 (ix4 (0 : Fin 1) g d e)
    have hs : extractStridedSlice S1x12x64x64 ![0, 0, 0, 0] A2 Facts.slices_S1x12x2048x64_S1x12x64x64_0_0_0_0 (ix4 (0 : Fin 1) g d e)
        = A2 (ix4 (0 : Fin 1) g (⟨d.val, Nat.lt_of_lt_of_le d.isLt (by decide)⟩ : Fin 2048) e) :=
      extractStridedSlice_apply _ A2 _ _ (ix4 (0 : Fin 1) g (⟨d.val, Nat.lt_of_lt_of_le d.isLt (by decide)⟩ : Fin 2048) e) (by
        intro b
        match b with
        | ⟨0, _⟩ => rfl
        | ⟨1, _⟩ => exact (Nat.zero_add _).symm
        | ⟨2, _⟩ => exact (Nat.zero_add _).symm
        | ⟨3, _⟩ => exact (Nat.zero_add _).symm)
    rw [← hs]
    refine real_of_lt _ ?_
    rw [← word_top]
    exact k

end Cert.Pre_finite

end
-- ==== Proof.Val.Column.lean ====
/- One column of scores: its largest entry, its softmax weights, and what sorting does to them. -/
module

public import Mathlib.Analysis.SpecialFunctions.Exp
public import Idealize.ShloMosaic.PureOps.Ideal.Laws
public import Idealize.ShloMosaic.Lib.SortFacts

@[expose] public section

noncomputable section

namespace Cert.Column

open Idealize.ShloMosaic

/-- The largest entry of a column. -/
def top (f : Fin 2048 → ℝ) : ℝ := Finset.univ.sup' ⟨0, Finset.mem_univ _⟩ f

theorem le_top (f : Fin 2048 → ℝ) (n : Fin 2048) : f n ≤ top f := Finset.le_sup' f (Finset.mem_univ n)

theorem top_mem (f : Fin 2048 → ℝ) : ∃ n, top f = f n := by
  obtain ⟨n, _, h⟩ := Finset.exists_mem_eq_sup' (s := Finset.univ) ⟨(0 : Fin 2048), Finset.mem_univ _⟩ f
  exact ⟨n, h⟩

theorem top_perm (f : Fin 2048 → ℝ) (σ : Equiv.Perm (Fin 2048)) : top (fun n => f (σ n)) = top f := by
  refine le_antisymm (Finset.sup'_le _ _ fun n _ => le_top f (σ n)) ?_
  obtain ⟨n, h⟩ := top_mem f
  rw [h]
  have := le_top (fun n => f (σ n)) (σ.symm n)
  simpa using this

/-- The fold of `max` over a column of reals. -/
theorem fold_top (f : Fin 2048 → ℝ) (g : Fin 2048 → EReal) (h : ∀ n, g n = (f n : EReal)) :
    (Finset.univ : Finset (Fin 2048)).fold max ⊥ g = ((top f : ℝ) : EReal) := by
  refine le_antisymm ?_ ?_
  · rw [Finset.fold_max_le]
    exact ⟨bot_le, fun n _ => by rw [h n]; exact EReal.coe_le_coe_iff.mpr (le_top f n)⟩
  · obtain ⟨n, hn⟩ := top_mem f
    rw [hn, Finset.le_fold_max]
    exact Or.inr ⟨n, Finset.mem_univ _, by rw [h n]⟩

/-- The sum of the exponentials. -/
def mass (f : Fin 2048 → ℝ) : ℝ := ∑ n, Real.exp (f n - top f)

theorem mass_pos (f : Fin 2048 → ℝ) : 0 < mass f :=
  Finset.sum_pos (fun n _ => Real.exp_pos _) ⟨0, Finset.mem_univ _⟩

theorem mass_perm (f : Fin 2048 → ℝ) (σ : Equiv.Perm (Fin 2048)) : mass (fun n => f (σ n)) = mass f := by
  unfold mass
  rw [top_perm f σ]
  exact Equiv.sum_comp σ fun n => Real.exp (f n - top f)

/-- The softmax weight of a position. -/
def wt (f : Fin 2048 → ℝ) (n : Fin 2048) : ℝ := Real.exp (f n - top f) * (1 / mass f)

theorem wt_perm (f : Fin 2048 → ℝ) (σ : Equiv.Perm (Fin 2048)) (n : Fin 2048) :
    wt (fun n => f (σ n)) n = wt f (σ n) := by
  unfold wt
  rw [mass_perm f σ, top_perm f σ]

theorem wt_antitone (f : Fin 2048 → ℝ) (h : Antitone f) : Antitone (wt f) := by
  intro a b hab
  unfold wt
  refine mul_le_mul_of_nonneg_right (Real.exp_le_exp.mpr ?_) (one_div_nonneg.mpr (mass_pos f).le)
  linarith [h hab]

/-- The quotient of the ideal exponentials is the weight. -/
theorem div_wt (f : Fin 2048 → ℝ) (n : Fin 2048) :
    Ideal.div (Ideal.exp (((f n : ℝ) : EReal) - ((top f : ℝ) : EReal))) ((mass f : ℝ) : EReal) = ((wt f n : ℝ) : EReal) := by
  rw [Ideal.div_coe (mass_pos f).ne', ← EReal.coe_sub]
  show ((Real.exp (f n - top f) : ℝ) : EReal) * _ = _
  rw [← EReal.coe_mul]
  rfl

/-- Two arrangements in descending order of the same entries are equal. -/
theorem arranged {N : Nat} (a b : Fin N → EReal) (ha : Antitone a) (hb : Antitone b) (σ : Equiv.Perm (Fin N))
    (h : ∀ i, a i = b (σ i)) : a = b := by
  have e : a = b ∘ σ := funext h
  have hp : (List.ofFn a).Perm (List.ofFn b) := by rw [e]; exact Equiv.Perm.ofFn_comp_perm σ b
  refine List.ofFn_injective (List.Perm.eq_of_pairwise (le := fun x y => y ≤ x) (fun _ _ _ _ hab hba => le_antisymm hba hab) ?_ ?_ hp)
  · exact List.pairwise_ofFn.mpr fun i j hij => ha hij.le
  · exact List.pairwise_ofFn.mpr fun i j hij => hb hij.le

/-- The weights sorted, and the weights of the sorted scores. -/
theorem sorted_wt (f g : Fin 2048 → ℝ) (W : Fin 2048 → EReal) (hW : Antitone W) (σ π : Equiv.Perm (Fin 2048))
    (hσ : ∀ i, W i = ((wt f (σ i) : ℝ) : EReal)) (hg : Antitone g) (hπ : ∀ i, g i = f (π i)) (n : Fin 2048) :
    W n = ((wt g n : ℝ) : EReal) := by
  have eg : g = fun n => f (π n) := funext hπ
  have : W = fun n => ((wt g n : ℝ) : EReal) := by
    refine arranged W _ hW (fun a b hab => EReal.coe_le_coe_iff.mpr (wt_antitone g hg hab)) (σ.trans π.symm) fun i => ?_
    rw [hσ i, eg, wt_perm]
    simp
  rw [this]

/-- The order in which the reference's sort reads a column of reals: a rearrangement, in descending order. -/
theorem order_desc {N : Nat} (f : Fin N → ℝ) (R : Fin N → Fin N → Bool) (hR : ∀ a b, R a b = true ↔ f b < f a) :
    ∃ π : Equiv.Perm (Fin N), (∀ i, π i = sortedFrom R i) ∧ Antitone fun i => f (π i) := by
  refine ⟨Equiv.ofBijective (sortedFrom R) ⟨sortedFrom_injective R, sortedFrom_surjective R⟩, fun i => rfl, ?_⟩
  intro i j hij
  rcases hij.lt_or_eq with h | h
  · have := sortedFrom_noInversion R R
      (fun a b hab => by
        rw [Bool.eq_false_iff]; intro hba; rw [hR] at hab hba; linarith)
      (fun a b hab => hab)
      (fun a b c h1 h2 => by
        rw [Bool.eq_false_iff, Ne, hR] at h1 h2 ⊢; push Not at h1 h2 ⊢; linarith)
      i j h
    rw [Bool.eq_false_iff, Ne, hR] at this
    exact not_lt.mp this
  · rw [h]

end Cert.Column

end
-- ==== Proof.Val.Stage.lean ====
/- The compare-exchange stages of the sort, read at a position. -/
module

public import proofs.«01_k».proof.Proof.KI.SortLoop
public import Idealize.ShloMosaic.Lib.ValueIdx
public import Idealize.ShloMosaic.Lib.ValueLayout
public import Idealize.ShloMosaic.Lib.SortNet.Sorts

@[expose] public section

set_option maxRecDepth 16384

noncomputable section

namespace Cert.KernelIdeal.Gen

open Idealize.ShloMosaic Idealize.ShloMosaic.TcCoe
open Idealize.ShloMosaic.ValueIdx

section wide
variable {N G J : Nat}

/-- A stage on halves of blocks of `2 J` rows: `M` is the block height, `V` the word whose bit says which way a block is sorted. -/
def wide (h1 : (⟨2, ![N, 256]⟩ : Shape).ShapeCasts ⟨4, ![G, 2, J, 256]⟩)
    (h2 : (⟨4, ![G, 2, J, 256]⟩ : Shape).Slices ![0, 0, 0, 0] ⟨4, ![G, 1, J, 256]⟩)
    (h3 : (⟨4, ![G, 2, J, 256]⟩ : Shape).Slices ![0, 1, 0, 0] ⟨4, ![G, 1, J, 256]⟩)
    (h4 : (⟨4, ![G, 1, J, 256]⟩ : Shape).ShapeCasts ⟨3, ![G, J, 256]⟩)
    (h5 : (⟨3, ![G, 1, 1]⟩ : Shape).Iotas .tc 32 [0])
    (h6 : (⟨3, ![G, 1, 1]⟩ : Shape).ShapeCasts ⟨3, ![G, 1, 1]⟩)
    (h7 : (⟨3, ![G, 1, 1]⟩ : Shape).Broadcasts ⟨3, ![G, J, 256]⟩)
    (h8 : (⟨3, ![G, J, 256]⟩ : Shape).ShapeCasts ⟨4, ![G, 1, J, 256]⟩)
    (h9 : Shape.Concatenates [(⟨4, ![G, 1, J, 256]⟩ : Shape), ⟨4, ![G, 1, J, 256]⟩] ⟨4, ![G, 2, J, 256]⟩ 1)
    (h10 : (⟨4, ![G, 2, J, 256]⟩ : Shape).ShapeCasts ⟨2, ![N, 256]⟩)
    (h11 : (⟨2, ![N, 256]⟩ : Shape).ShapeCasts ⟨2, ![N, 256]⟩)
    (M V : BitVec 32) (X : FVec Ideal ⟨2, ![N, 256]⟩ .bf16) : FVec Ideal ⟨2, ![N, 256]⟩ .bf16 :=
  have a : FVec Ideal ⟨4, ![G, 2, J, 256]⟩ .bf16 := shapeCast _ X h1
  have b : FVec Ideal ⟨3, ![G, J, 256]⟩ .bf16 := shapeCast _ (extractStridedSlice ⟨4, ![G, 1, J, 256]⟩ ![0, 0, 0, 0] a h2) h4
  have c : FVec Ideal ⟨3, ![G, J, 256]⟩ .bf16 := shapeCast _ (extractStridedSlice ⟨4, ![G, 1, J, 256]⟩ ![0, 1, 0, 0] a h3) h4
  have lo := minimumf b c
  have hi := maximumf b c
  have k : IVec ⟨3, ![G, 1, 1]⟩ 1 := cmpi .eq (andi (muli (iota .tc ⟨3, ![G, 1, 1]⟩ 32 [0] h5) (broadcast ⟨3, ![G, 1, 1]⟩ M)) (broadcast ⟨3, ![G, 1, 1]⟩ V)) (broadcast ⟨3, ![G, 1, 1]⟩ 0#32)
  have k' : IVec ⟨3, ![G, J, 256]⟩ 1 := broadcastTo ⟨3, ![G, J, 256]⟩ (shapeCast ⟨3, ![G, 1, 1]⟩ k h6) h7
  have p : FVec Ideal ⟨4, ![G, 1, J, 256]⟩ .bf16 := shapeCast _ (select k' hi lo) h8
  have q : FVec Ideal ⟨4, ![G, 1, J, 256]⟩ .bf16 := shapeCast _ (select k' lo hi) h8
  shapeCast ⟨2, ![N, 256]⟩ (shapeCast ⟨2, ![N, 256]⟩ (concatenate ⟨4, ![G, 2, J, 256]⟩ 1 [⟨⟨4, ![G, 1, J, 256]⟩, p⟩, ⟨⟨4, ![G, 1, J, 256]⟩, q⟩] h9) h10) h11

variable (h1 : (⟨2, ![N, 256]⟩ : Shape).ShapeCasts ⟨4, ![G, 2, J, 256]⟩)
    (h2 : (⟨4, ![G, 2, J, 256]⟩ : Shape).Slices ![0, 0, 0, 0] ⟨4, ![G, 1, J, 256]⟩)
    (h3 : (⟨4, ![G, 2, J, 256]⟩ : Shape).Slices ![0, 1, 0, 0] ⟨4, ![G, 1, J, 256]⟩)
    (h4 : (⟨4, ![G, 1, J, 256]⟩ : Shape).ShapeCasts ⟨3, ![G, J, 256]⟩)
    (h5 : (⟨3, ![G, 1, 1]⟩ : Shape).Iotas .tc 32 [0])
    (h6 : (⟨3, ![G, 1, 1]⟩ : Shape).ShapeCasts ⟨3, ![G, 1, 1]⟩)
    (h7 : (⟨3, ![G, 1, 1]⟩ : Shape).Broadcasts ⟨3, ![G, J, 256]⟩)
    (h8 : (⟨3, ![G, J, 256]⟩ : Shape).ShapeCasts ⟨4, ![G, 1, J, 256]⟩)
    (h9 : Shape.Concatenates [(⟨4, ![G, 1, J, 256]⟩ : Shape), ⟨4, ![G, 1, J, 256]⟩] ⟨4, ![G, 2, J, 256]⟩ 1)
    (h10 : (⟨4, ![G, 2, J, 256]⟩ : Shape).ShapeCasts ⟨2, ![N, 256]⟩)
    (h11 : (⟨2, ![N, 256]⟩ : Shape).ShapeCasts ⟨2, ![N, 256]⟩)
    (M V : BitVec 32) (X : FVec Ideal ⟨2, ![N, 256]⟩ .bf16)

theorem wide_half (o : Nat) (b : Fin 2) (hb : b.val = o)
    (h : (⟨4, ![G, 2, J, 256]⟩ : Shape).Slices ![0, o, 0, 0] ⟨4, ![G, 1, J, 256]⟩) (q : Fin G) (r : Fin J) (j : Fin 256) (i : Fin N)
    (hi : i.val = (q.val * 2 + o) * J + r.val) :
    shapeCast (⟨3, ![G, J, 256]⟩ : Shape) (extractStridedSlice ⟨4, ![G, 1, J, 256]⟩ ![0, o, 0, 0] (shapeCast ⟨4, ![G, 2, J, 256]⟩ X h1) h) h4 (ix3 q r j)
      = X (ix2 i j) := by
  rw [shapeCast_apply _ h4 (ix3 q r j) (ix4 q (0 : Fin 1) r j) (by
    rw [Shape.rowMajor_val_four, Shape.rowMajor_val_three]
    show ((q.val * 1 + 0) * J + r.val) * 256 + j.val = (q.val * J + r.val) * 256 + j.val
    rw [Nat.mul_one, Nat.add_zero])]
  rw [slice4_axis1_apply o _ h q (0 : Fin 1) r j b (by rw [hb]; rfl)]
  exact shapeCast_apply _ h1 _ _ (by
    rw [Shape.rowMajor_val_four, Shape.rowMajor_val_two]
    show i.val * 256 + j.val = ((q.val * 2 + b.val) * J + r.val) * 256 + j.val
    rw [hi, hb])

theorem wide_mask (q : Fin G) (r : Fin J) (j : Fin 256) :
    broadcastTo (⟨3, ![G, J, 256]⟩ : Shape) (shapeCast ⟨3, ![G, 1, 1]⟩ (cmpi .eq (andi (muli (iota .tc ⟨3, ![G, 1, 1]⟩ 32 [0] h5) (broadcast ⟨3, ![G, 1, 1]⟩ M)) (broadcast ⟨3, ![G, 1, 1]⟩ V)) (broadcast ⟨3, ![G, 1, 1]⟩ 0#32)) h6) h7 (ix3 q r j)
      = Scalar.cmpi .eq (BitVec.ofNat 32 q.val * M &&& V) 0#32 := by
  rw [broadcastTo_apply _ h7 (ix3 q r j) (ix3 q (0 : Fin 1) (0 : Fin 1)) (by
    intro a
    match a with
    | ⟨0, _⟩ =>
      show q.val = if G = 1 then 0 else q.val
      by_cases hG : G = 1
      · rw [if_pos hG]; have := q.isLt; omega
      · rw [if_neg hG]
    | ⟨1, _⟩ => rfl
    | ⟨2, _⟩ => rfl)]
  rw [shapeCast_apply _ h6 (ix3 q (0 : Fin 1) (0 : Fin 1)) (ix3 q (0 : Fin 1) (0 : Fin 1)) rfl]
  show Scalar.cmpi .eq (BitVec.ofNat 32 (0 * G + q.val) * M &&& V) 0#32 = _
  rw [Nat.zero_mul, Nat.zero_add]

/-- The upper half's rows of a stage. -/
theorem wide_lo (q : Fin G) (r : Fin J) (j : Fin 256) (i i' : Fin N) (hi : i.val = (q.val * 2 + 0) * J + r.val)
    (hi' : i'.val = (q.val * 2 + 1) * J + r.val) :
    wide h1 h2 h3 h4 h5 h6 h7 h8 h9 h10 h11 M V X (ix2 i j)
      = Scalar.select (Scalar.cmpi .eq (BitVec.ofNat 32 q.val * M &&& V) 0#32) (max (X (ix2 i j)) (X (ix2 i' j))) (min (X (ix2 i j)) (X (ix2 i' j))) := by
  unfold wide
  rw [shapeCast_apply _ h11 (ix2 i j) (ix2 i j) rfl,
    shapeCast_apply _ h10 (ix2 i j) (ix4 q (0 : Fin 2) r j) (by
      rw [Shape.rowMajor_val_four, Shape.rowMajor_val_two]
      show ((q.val * 2 + 0) * J + r.val) * 256 + j.val = i.val * 256 + j.val
      rw [hi]),
    concatenate_pair_apply_left _ _ _ h9 (ix4 q (0 : Fin 2) r j) rfl (ix4 q (0 : Fin 1) r j) (by
      intro b
      match b with | ⟨0, _⟩ => rfl | ⟨1, _⟩ => rfl | ⟨2, _⟩ => rfl | ⟨3, _⟩ => rfl),
    shapeCast_apply _ h8 (ix4 q (0 : Fin 1) r j) (ix3 q r j) (by
      rw [Shape.rowMajor_val_four, Shape.rowMajor_val_three]
      show (q.val * J + r.val) * 256 + j.val = ((q.val * 1 + 0) * J + r.val) * 256 + j.val
      rw [Nat.mul_one, Nat.add_zero]),
    select_apply, wide_mask, maximumf_apply, minimumf_apply,
    wide_half h1 h4 X 0 0 rfl h2 q r j i hi, wide_half h1 h4 X 1 1 rfl h3 q r j i' hi']

/-- The lower half's rows of a stage. -/
theorem wide_hi (q : Fin G) (r : Fin J) (j : Fin 256) (i i' : Fin N) (hi : i.val = (q.val * 2 + 0) * J + r.val)
    (hi' : i'.val = (q.val * 2 + 1) * J + r.val) :
    wide h1 h2 h3 h4 h5 h6 h7 h8 h9 h10 h11 M V X (ix2 i' j)
      = Scalar.select (Scalar.cmpi .eq (BitVec.ofNat 32 q.val * M &&& V) 0#32) (min (X (ix2 i j)) (X (ix2 i' j))) (max (X (ix2 i j)) (X (ix2 i' j))) := by
  unfold wide
  rw [shapeCast_apply _ h11 (ix2 i' j) (ix2 i' j) rfl,
    shapeCast_apply _ h10 (ix2 i' j) (ix4 q (1 : Fin 2) r j) (by
      rw [Shape.rowMajor_val_four, Shape.rowMajor_val_two]
      show ((q.val * 2 + 1) * J + r.val) * 256 + j.val = i'.val * 256 + j.val
      rw [hi']),
    concatenate_pair_apply_right _ _ _ h9 (ix4 q (1 : Fin 2) r j) rfl rfl (ix4 q (0 : Fin 1) r j) (by
      intro b hb
      match b with | ⟨0, _⟩ => rfl | ⟨1, _⟩ => exact absurd rfl hb | ⟨2, _⟩ => rfl | ⟨3, _⟩ => rfl) rfl,
    shapeCast_apply _ h8 (ix4 q (0 : Fin 1) r j) (ix3 q r j) (by
      rw [Shape.rowMajor_val_four, Shape.rowMajor_val_three]
      show (q.val * J + r.val) * 256 + j.val = ((q.val * 1 + 0) * J + r.val) * 256 + j.val
      rw [Nat.mul_one, Nat.add_zero]),
    select_apply, wide_mask, maximumf_apply, minimumf_apply,
    wide_half h1 h4 X 0 0 rfl h2 q r j i hi, wide_half h1 h4 X 1 1 rfl h3 q r j i' hi']

end wide

section narrow
variable {A J : Nat}

/-- A stage whose partners are read through two rotations by `J` of the 2048 rows (`A + J = 2048`). -/
def narrow (h0 : (⟨2, ![2048, 1]⟩ : Shape).Iotas .tc 32 [0])
    (h1 : (⟨2, ![2048, 256]⟩ : Shape).Slices ![A, 0] ⟨2, ![J, 256]⟩)
    (h2 : (⟨2, ![2048, 256]⟩ : Shape).Slices ![0, 0] ⟨2, ![A, 256]⟩)
    (h3 : Shape.Concatenates [(⟨2, ![J, 256]⟩ : Shape), ⟨2, ![A, 256]⟩] ⟨2, ![2048, 256]⟩ 0)
    (h4 : (⟨2, ![2048, 256]⟩ : Shape).Slices ![J, 0] ⟨2, ![A, 256]⟩)
    (h5 : (⟨2, ![2048, 256]⟩ : Shape).Slices ![0, 0] ⟨2, ![J, 256]⟩)
    (h6 : Shape.Concatenates [(⟨2, ![A, 256]⟩ : Shape), ⟨2, ![J, 256]⟩] ⟨2, ![2048, 256]⟩ 0)
    (h7 : (⟨2, ![2048, 1]⟩ : Shape).ShapeCasts ⟨2, ![2048, 1]⟩)
    (h8 : (⟨2, ![2048, 1]⟩ : Shape).Broadcasts ⟨2, ![2048, 256]⟩)
    (h9 : (⟨2, ![2048, 256]⟩ : Shape).ShapeCasts ⟨2, ![2048, 256]⟩)
    (W V : BitVec 32) (X : FVec Ideal ⟨2, ![2048, 256]⟩ .bf16) : FVec Ideal ⟨2, ![2048, 256]⟩ .bf16 :=
  have io : IVec ⟨2, ![2048, 1]⟩ 32 := iota .tc ⟨2, ![2048, 1]⟩ 32 [0] h0
  have k : IVec ⟨2, ![2048, 1]⟩ 1 := cmpi .ne (andi io (broadcast ⟨2, ![2048, 1]⟩ W)) (broadcast ⟨2, ![2048, 1]⟩ 0#32)
  have dn : FVec Ideal ⟨2, ![2048, 256]⟩ .bf16 := concatenate ⟨2, ![2048, 256]⟩ 0 [⟨⟨2, ![J, 256]⟩, extractStridedSlice ⟨2, ![J, 256]⟩ ![A, 0] X h1⟩, ⟨⟨2, ![A, 256]⟩, extractStridedSlice ⟨2, ![A, 256]⟩ ![0, 0] X h2⟩] h3
  have up : FVec Ideal ⟨2, ![2048, 256]⟩ .bf16 := concatenate ⟨2, ![2048, 256]⟩ 0 [⟨⟨2, ![A, 256]⟩, extractStridedSlice ⟨2, ![A, 256]⟩ ![J, 0] X h4⟩, ⟨⟨2, ![J, 256]⟩, extractStridedSlice ⟨2, ![J, 256]⟩ ![0, 0] X h5⟩] h6
  have p : FVec Ideal ⟨2, ![2048, 256]⟩ .bf16 := select (broadcastTo ⟨2, ![2048, 256]⟩ (shapeCast ⟨2, ![2048, 1]⟩ k h7) h8) dn up
  have e : IVec ⟨2, ![2048, 1]⟩ 1 := cmpi .eq (andi io (broadcast ⟨2, ![2048, 1]⟩ W)) (broadcast ⟨2, ![2048, 1]⟩ 0#32)
  have d : IVec ⟨2, ![2048, 1]⟩ 1 := cmpi .eq (andi io (broadcast ⟨2, ![2048, 1]⟩ V)) (broadcast ⟨2, ![2048, 1]⟩ 0#32)
  have x : IVec ⟨2, ![2048, 1]⟩ 1 := xori (xori e d) (constantI ⟨2, ![2048, 1]⟩ 1 1#1)
  shapeCast ⟨2, ![2048, 256]⟩ (select (broadcastTo ⟨2, ![2048, 256]⟩ (shapeCast ⟨2, ![2048, 1]⟩ x h7) h8) (maximumf X p) (minimumf X p)) h9

variable (h0 : (⟨2, ![2048, 1]⟩ : Shape).Iotas .tc 32 [0])
    (h1 : (⟨2, ![2048, 256]⟩ : Shape).Slices ![A, 0] ⟨2, ![J, 256]⟩)
    (h2 : (⟨2, ![2048, 256]⟩ : Shape).Slices ![0, 0] ⟨2, ![A, 256]⟩)
    (h3 : Shape.Concatenates [(⟨2, ![J, 256]⟩ : Shape), ⟨2, ![A, 256]⟩] ⟨2, ![2048, 256]⟩ 0)
    (h4 : (⟨2, ![2048, 256]⟩ : Shape).Slices ![J, 0] ⟨2, ![A, 256]⟩)
    (h5 : (⟨2, ![2048, 256]⟩ : Shape).Slices ![0, 0] ⟨2, ![J, 256]⟩)
    (h6 : Shape.Concatenates [(⟨2, ![A, 256]⟩ : Shape), ⟨2, ![J, 256]⟩] ⟨2, ![2048, 256]⟩ 0)
    (h7 : (⟨2, ![2048, 1]⟩ : Shape).ShapeCasts ⟨2, ![2048, 1]⟩)
    (h8 : (⟨2, ![2048, 1]⟩ : Shape).Broadcasts ⟨2, ![2048, 256]⟩)
    (h9 : (⟨2, ![2048, 256]⟩ : Shape).ShapeCasts ⟨2, ![2048, 256]⟩)
    (W V : BitVec 32) (X : FVec Ideal ⟨2, ![2048, 256]⟩ .bf16)

theorem colmask (k : IVec ⟨2, ![2048, 1]⟩ 1) (i : Fin 2048) (j : Fin 256) :
    broadcastTo ⟨2, ![2048, 256]⟩ (shapeCast ⟨2, ![2048, 1]⟩ k h7) h8 (ix2 i j) = k (ix2 i (0 : Fin 1)) := by
  rw [broadcastTo_apply _ h8 (ix2 i j) (ix2 i (0 : Fin 1)) (by
    intro a
    match a with
    | ⟨0, _⟩ => rfl
    | ⟨1, _⟩ => rfl)]
  exact shapeCast_apply _ h7 _ _ rfl

theorem rowword (p : CmpIPredicate) (U : BitVec 32) (i : Fin 2048) :
    (cmpi p (andi (iota .tc ⟨2, ![2048, 1]⟩ 32 [0] h0) (broadcast ⟨2, ![2048, 1]⟩ U)) (broadcast ⟨2, ![2048, 1]⟩ 0#32)) (ix2 i (0 : Fin 1))
      = Scalar.cmpi p (BitVec.ofNat 32 i.val &&& U) 0#32 := by
  show Scalar.cmpi p (BitVec.ofNat 32 (0 * 2048 + i.val) &&& U) 0#32 = _
  rw [Nat.zero_mul, Nat.zero_add]

/-- A position whose bit is clear: its partner is `J` rows below. -/
theorem narrow_lo (i i' : Fin 2048) (j : Fin 256) (hi : i'.val = i.val + J) (hA : A + J = 2048)
    (hW : BitVec.ofNat 32 i.val &&& W = 0#32) :
    narrow h0 h1 h2 h3 h4 h5 h6 h7 h8 h9 W V X (ix2 i j)
      = Scalar.select (Scalar.cmpi .eq (BitVec.ofNat 32 i.val &&& V) 0#32) (max (X (ix2 i j)) (X (ix2 i' j))) (min (X (ix2 i j)) (X (ix2 i' j))) := by
  unfold narrow
  rw [shapeCast_apply _ h9 (ix2 i j) (ix2 i j) rfl, select_apply, colmask, maximumf_apply, minimumf_apply, select_apply, colmask]
  have e1 : (cmpi .ne (andi (iota .tc ⟨2, ![2048, 1]⟩ 32 [0] h0) (broadcast ⟨2, ![2048, 1]⟩ W)) (broadcast ⟨2, ![2048, 1]⟩ 0#32)) (ix2 i (0 : Fin 1)) = 0#1 := by
    rw [rowword, hW]; rfl
  have e2 : (cmpi .eq (andi (iota .tc ⟨2, ![2048, 1]⟩ 32 [0] h0) (broadcast ⟨2, ![2048, 1]⟩ W)) (broadcast ⟨2, ![2048, 1]⟩ 0#32)) (ix2 i (0 : Fin 1)) = 1#1 := by
    rw [rowword, hW]; rfl
  have e3 : (xori (xori (cmpi .eq (andi (iota .tc ⟨2, ![2048, 1]⟩ 32 [0] h0) (broadcast ⟨2, ![2048, 1]⟩ W)) (broadcast ⟨2, ![2048, 1]⟩ 0#32))
      (cmpi .eq (andi (iota .tc ⟨2, ![2048, 1]⟩ 32 [0] h0) (broadcast ⟨2, ![2048, 1]⟩ V)) (broadcast ⟨2, ![2048, 1]⟩ 0#32))) (constantI ⟨2, ![2048, 1]⟩ 1 1#1)) (ix2 i (0 : Fin 1))
      = Scalar.cmpi .eq (BitVec.ofNat 32 i.val &&& V) 0#32 := by
    have e4 : ∀ a b : BitVec 1, a = 1#1 → (a ^^^ b) ^^^ 1#1 = b := by decide
    exact (e4 _ _ e2).trans (rowword h0 _ _ _)
  rw [e1, e3, select_zero, concatenate_pair_apply_left _ _ _ h6 (ix2 i j) rfl (ix2 (⟨i.val, by have := i'.isLt; omega⟩ : Fin A) j) (by
      intro b
      match b with | ⟨0, _⟩ => rfl | ⟨1, _⟩ => rfl),
    slice2_axis0_apply J X h4 (⟨i.val, by have := i'.isLt; omega⟩ : Fin A) j i' (hi.trans (Nat.add_comm _ _))]

/-- A position whose bit is set: its partner is `J` rows above. -/
theorem narrow_hi (i i' : Fin 2048) (j : Fin 256) (hi : i'.val = i.val + J) (hA : A + J = 2048)
    (hW : BitVec.ofNat 32 i'.val &&& W ≠ 0#32) :
    narrow h0 h1 h2 h3 h4 h5 h6 h7 h8 h9 W V X (ix2 i' j)
      = Scalar.select (Scalar.cmpi .eq (BitVec.ofNat 32 i'.val &&& V) 0#32) (min (X (ix2 i' j)) (X (ix2 i j))) (max (X (ix2 i' j)) (X (ix2 i j))) := by
  unfold narrow
  rw [shapeCast_apply _ h9 (ix2 i' j) (ix2 i' j) rfl, select_apply, colmask, maximumf_apply, minimumf_apply, select_apply, colmask]
  have e1 : (cmpi .ne (andi (iota .tc ⟨2, ![2048, 1]⟩ 32 [0] h0) (broadcast ⟨2, ![2048, 1]⟩ W)) (broadcast ⟨2, ![2048, 1]⟩ 0#32)) (ix2 i' (0 : Fin 1)) = 1#1 := by
    rw [rowword]
    show BitVec.ofBool ((BitVec.ofNat 32 i'.val &&& W) != 0#32) = 1#1
    rw [bne_iff_ne.mpr hW]; rfl
  have e2 : (cmpi .eq (andi (iota .tc ⟨2, ![2048, 1]⟩ 32 [0] h0) (broadcast ⟨2, ![2048, 1]⟩ W)) (broadcast ⟨2, ![2048, 1]⟩ 0#32)) (ix2 i' (0 : Fin 1)) = 0#1 := by
    rw [rowword]
    show BitVec.ofBool ((BitVec.ofNat 32 i'.val &&& W) == 0#32) = 0#1
    rw [beq_eq_false_iff_ne.mpr hW]; rfl
  have e3 : (xori (xori (cmpi .eq (andi (iota .tc ⟨2, ![2048, 1]⟩ 32 [0] h0) (broadcast ⟨2, ![2048, 1]⟩ W)) (broadcast ⟨2, ![2048, 1]⟩ 0#32))
      (cmpi .eq (andi (iota .tc ⟨2, ![2048, 1]⟩ 32 [0] h0) (broadcast ⟨2, ![2048, 1]⟩ V)) (broadcast ⟨2, ![2048, 1]⟩ 0#32))) (constantI ⟨2, ![2048, 1]⟩ 1 1#1)) (ix2 i' (0 : Fin 1))
      = ~~~ (Scalar.cmpi .eq (BitVec.ofNat 32 i'.val &&& V) 0#32) := by
    have e4 : ∀ a b : BitVec 1, a = 0#1 → (a ^^^ b) ^^^ 1#1 = ~~~ b := by decide
    rw [← rowword h0]
    exact e4 _ _ e2
  have e6 : ∀ (b : BitVec 1) (x y : EReal), Scalar.select (~~~ b) x y = Scalar.select b y x := by
    intro b x y
    by_cases hb : b = 1#1
    · subst hb; rfl
    · have := eq_zero_of_ne_one hb; subst this; rfl
  rw [e1, e3, select_one, concatenate_pair_apply_right _ _ _ h3 (ix2 i' j) rfl rfl (ix2 (⟨i.val, by have := i'.isLt; omega⟩ : Fin A) j) (by
      intro b hb
      match b with | ⟨0, _⟩ => exact absurd rfl hb | ⟨1, _⟩ => rfl) hi.symm,
    slice2_axis0_apply 0 X h2 (⟨i.val, by have := i'.isLt; omega⟩ : Fin A) j i (Nat.zero_add _).symm]
  exact e6 _ _ _

end narrow

end Cert.KernelIdeal.Gen

end
-- ==== Proof.Val.Net.lean ====
/- The sort's eleven levels over a column are the bitonic sort on 2048 positions. -/
module

public import proofs.«01_k».proof.Proof.Val.Stage

@[expose] public section

set_option maxRecDepth 16384

noncomputable section

namespace Cert.KernelIdeal.Gen

open Idealize.ShloMosaic Idealize.ShloMosaic.TcCoe
open Idealize.ShloMosaic.ValueIdx Idealize.ShloMosaic.SortNet

/-- Column `j` of a block, along the positions. -/
def colOf (X : Vec Ideal S2048x256 .bf16) (j : Fin 256) : Fin (2 ^ 11) → EReal := fun i => X (ix2 (⟨i.val, i.isLt⟩ : Fin 2048) j)

theorem sel_eq (P : Prop) [Decidable P] (b : BitVec 1) (h : b = 1#1 ↔ P) (x y : EReal) : Scalar.select b x y = if P then x else y := by
  by_cases hb : b = 1#1
  · rw [if_pos (h.1 hb), hb]; rfl
  · rw [if_neg fun k => hb (h.2 k), eq_zero_of_ne_one hb]; rfl

theorem word_and (i l : Nat) (hi : i < 2048) (hl : l < 31) :
    (Scalar.cmpi .eq (BitVec.ofNat 32 i &&& BitVec.ofNat 32 (2 ^ l)) 0#32 = 1#1) ↔ i &&& 2 ^ l = 0 := by
  have h1 : (2 : Nat) ^ l < 2 ^ 32 := Nat.pow_lt_pow_right (by norm_num) (by omega)
  have h3 : i &&& 2 ^ l < 2 ^ 32 := lt_of_le_of_lt Nat.and_le_left (by omega)
  have h2 : (BitVec.ofNat 32 i &&& BitVec.ofNat 32 (2 ^ l)).toNat = i &&& 2 ^ l := by
    rw [BitVec.toNat_and, BitVec.toNat_ofNat, BitVec.toNat_ofNat, Nat.mod_eq_of_lt h1, Nat.mod_eq_of_lt (by omega)]
  have h4 : (Scalar.cmpi .eq (BitVec.ofNat 32 i &&& BitVec.ofNat 32 (2 ^ l)) 0#32 = 1#1) ↔ (BitVec.ofNat 32 i &&& BitVec.ofNat 32 (2 ^ l)) = 0#32 := by
    show BitVec.ofBool (_ == 0#32) = 1#1 ↔ _
    by_cases h : (BitVec.ofNat 32 i &&& BitVec.ofNat 32 (2 ^ l)) = 0#32
    · simp [h]
    · rw [beq_eq_false_iff_ne.mpr h]; exact ⟨fun k => absurd k (by decide), fun k => absurd k h⟩
  rw [h4]
  constructor
  · intro h
    rw [← h2, h]; rfl
  · intro h
    apply BitVec.eq_of_toNat_eq
    rw [h2, h]; rfl

/-- What a stage at distance `2 ^ s` in level `l` does at a pair, the two ways it is read. -/
structure StageAt (s l : Nat) (X Y : FVec Ideal S2048x256 .bf16) : Prop where
  lo : ∀ (i i' : Fin 2048) (j : Fin 256), i.val &&& 2 ^ s = 0 → i'.val = i.val + 2 ^ s →
    Y (ix2 i j) = if i.val &&& 2 ^ (l + 1) = 0 then max (X (ix2 i j)) (X (ix2 i' j)) else min (X (ix2 i j)) (X (ix2 i' j))
  hi : ∀ (i i' : Fin 2048) (j : Fin 256), i.val &&& 2 ^ s = 0 → i'.val = i.val + 2 ^ s →
    Y (ix2 i' j) = if i.val &&& 2 ^ (l + 1) = 0 then min (X (ix2 i j)) (X (ix2 i' j)) else max (X (ix2 i j)) (X (ix2 i' j))

theorem StageAt.net {s l : Nat} (hs : s < 11) {X Y : FVec Ideal S2048x256 .bf16} (h : StageAt s l X Y) (j : Fin 256) :
    colOf Y j = Network.apply (stage 11 s fun i => (decide (i.val &&& 2 ^ (l + 1) = 0)) == true) (colOf X j) := by
  funext i
  by_cases hi : i.val &&& 2 ^ s = 0
  · have hp := partner_val_of_clear hs i hi
    rw [(apply_stage hs _ (colOf X j) i hi).1]
    refine (h.lo ⟨i.val, i.isLt⟩ ⟨(partner 11 s i).val, (partner 11 s i).isLt⟩ j hi hp).trans ?_
    by_cases hl : i.val &&& 2 ^ (l + 1) = 0
    · rw [if_pos hl, if_pos (by simp [hl])]; rfl
    · rw [if_neg hl, if_neg (by simp [hl])]; rfl
  · have hc := partner_and_of_set hs i hi
    have hp := partner_val_of_clear hs (partner 11 s i) hc
    have e := (apply_stage hs (fun i => (decide (i.val &&& 2 ^ (l + 1) = 0)) == true) (colOf X j) (partner 11 s i) hc).2
    rw [partner_partner hs] at e hp
    rw [e]
    refine (h.hi ⟨(partner 11 s i).val, (partner 11 s i).isLt⟩ ⟨i.val, i.isLt⟩ j hc hp).trans ?_
    by_cases hl : (partner 11 s i).val &&& 2 ^ (l + 1) = 0
    · rw [if_pos hl, if_pos (by simp [hl])]; rfl
    · rw [if_neg hl, if_neg (by simp [hl])]; rfl

theorem bit_below (q r s l : Nat) (hr : r < 2 ^ (s + 1)) (hsl : s ≤ l) :
    (q * 2 ^ (s + 1)) &&& 2 ^ (l + 1) = 0 ↔ (q * 2 ^ (s + 1) + r) &&& 2 ^ (l + 1) = 0 := by
  rw [and_two_pow_eq_zero_iff_testBit, and_two_pow_eq_zero_iff_testBit, Nat.mul_comm, Nat.testBit_two_pow_mul_add _ hr, if_neg (by omega)]
  have := Nat.testBit_two_pow_mul_add (i := s + 1) q (b := 0) (Nat.two_pow_pos _) (l + 1)
  rw [Nat.add_zero, if_neg (by omega)] at this
  rw [this]

theorem low_form (i s : Nat) (h : i &&& 2 ^ s = 0) : i = (i / 2 ^ (s + 1) * 2 + 0) * 2 ^ s + i % 2 ^ s := by
  have hb : i.testBit s = false := (and_two_pow_eq_zero_iff_testBit i s).1 h
  have h1 : i / 2 ^ s % 2 = 0 := by
    rw [Nat.testBit_eq_decide_div_mod_eq] at hb
    have : ¬ (i / 2 ^ s % 2 = 1) := of_decide_eq_false hb
    omega
  have h2 : i / 2 ^ (s + 1) = i / 2 ^ s / 2 := by rw [Nat.pow_succ, Nat.div_div_eq_div_mul]
  have h3 : i / 2 ^ s / 2 * 2 = i / 2 ^ s := by omega
  rw [h2, Nat.add_zero, h3]
  exact (Nat.div_add_mod' i (2 ^ s)).symm

section
variable {G : Nat}
    (s l : Nat) (hs : s < 11) (hsl : s ≤ l) (hl : l < 11) (hG : G * 2 ^ (s + 1) = 2048)
    (h1 : (⟨2, ![2048, 256]⟩ : Shape).ShapeCasts ⟨4, ![G, 2, 2 ^ s, 256]⟩)
    (h2 : (⟨4, ![G, 2, 2 ^ s, 256]⟩ : Shape).Slices ![0, 0, 0, 0] ⟨4, ![G, 1, 2 ^ s, 256]⟩)
    (h3 : (⟨4, ![G, 2, 2 ^ s, 256]⟩ : Shape).Slices ![0, 1, 0, 0] ⟨4, ![G, 1, 2 ^ s, 256]⟩)
    (h4 : (⟨4, ![G, 1, 2 ^ s, 256]⟩ : Shape).ShapeCasts ⟨3, ![G, 2 ^ s, 256]⟩)
    (h5 : (⟨3, ![G, 1, 1]⟩ : Shape).Iotas .tc 32 [0])
    (h6 : (⟨3, ![G, 1, 1]⟩ : Shape).ShapeCasts ⟨3, ![G, 1, 1]⟩)
    (h7 : (⟨3, ![G, 1, 1]⟩ : Shape).Broadcasts ⟨3, ![G, 2 ^ s, 256]⟩)
    (h8 : (⟨3, ![G, 2 ^ s, 256]⟩ : Shape).ShapeCasts ⟨4, ![G, 1, 2 ^ s, 256]⟩)
    (h9 : Shape.Concatenates [(⟨4, ![G, 1, 2 ^ s, 256]⟩ : Shape), ⟨4, ![G, 1, 2 ^ s, 256]⟩] ⟨4, ![G, 2, 2 ^ s, 256]⟩ 1)
    (h10 : (⟨4, ![G, 2, 2 ^ s, 256]⟩ : Shape).ShapeCasts ⟨2, ![2048, 256]⟩)
    (h11 : (⟨2, ![2048, 256]⟩ : Shape).ShapeCasts ⟨2, ![2048, 256]⟩)
    (X : FVec Ideal ⟨2, ![2048, 256]⟩ .bf16)

include hs hsl hl hG in
theorem wide_stage : StageAt s l X (wide h1 h2 h3 h4 h5 h6 h7 h8 h9 h10 h11 (BitVec.ofNat 32 (2 ^ (s + 1))) (BitVec.ofNat 32 (2 ^ (l + 1))) X) := by
  have hpos : 0 < 2 ^ s := Nat.two_pow_pos s
  have key : ∀ i : Fin 2048, i.val &&& 2 ^ s = 0 → ∃ (q : Fin G) (r : Fin (2 ^ s)), i.val = (q.val * 2 + 0) * 2 ^ s + r.val
      ∧ ((Scalar.cmpi .eq (BitVec.ofNat 32 q.val * BitVec.ofNat 32 (2 ^ (s + 1)) &&& BitVec.ofNat 32 (2 ^ (l + 1))) 0#32 = 1#1) ↔ i.val &&& 2 ^ (l + 1) = 0) := by
    intro i hi
    have e := low_form i.val s hi
    have hq : i.val / 2 ^ (s + 1) < G := by
      rw [Nat.div_lt_iff_lt_mul (Nat.two_pow_pos _), hG]; exact i.isLt
    refine ⟨⟨i.val / 2 ^ (s + 1), hq⟩, ⟨i.val % 2 ^ s, Nat.mod_lt _ hpos⟩, e, ?_⟩
    rw [← BitVec.ofNat_mul]
    have hm : i.val / 2 ^ (s + 1) * 2 ^ (s + 1) < 2048 := lt_of_le_of_lt (Nat.div_mul_le_self _ _) i.isLt
    show (Scalar.cmpi .eq (BitVec.ofNat 32 (i.val / 2 ^ (s + 1) * 2 ^ (s + 1)) &&& _) 0#32 = 1#1) ↔ _
    rw [word_and _ (l + 1) hm (by omega), bit_below _ (i.val % 2 ^ (s + 1)) s l (Nat.mod_lt _ (Nat.two_pow_pos _)) hsl, Nat.div_add_mod']
  constructor
  · intro i i' j hi hi'
    obtain ⟨q, r, e, hm⟩ := key i hi
    rw [wide_lo h1 h2 h3 h4 h5 h6 h7 h8 h9 h10 h11 _ _ X q r j i i' e (by rw [hi', e]; ring)]
    exact sel_eq _ _ hm _ _
  · intro i i' j hi hi'
    obtain ⟨q, r, e, hm⟩ := key i hi
    rw [wide_hi h1 h2 h3 h4 h5 h6 h7 h8 h9 h10 h11 _ _ X q r j i i' e (by rw [hi', e]; ring)]
    exact sel_eq _ _ hm _ _

end

section
variable {A : Nat} (s l : Nat) (hs : s < 11) (hsl : s ≤ l) (hl : l < 11) (hA : A + 2 ^ s = 2048)
    (h0 : (⟨2, ![2048, 1]⟩ : Shape).Iotas .tc 32 [0])
    (h1 : (⟨2, ![2048, 256]⟩ : Shape).Slices ![A, 0] ⟨2, ![2 ^ s, 256]⟩)
    (h2 : (⟨2, ![2048, 256]⟩ : Shape).Slices ![0, 0] ⟨2, ![A, 256]⟩)
    (h3 : Shape.Concatenates [(⟨2, ![2 ^ s, 256]⟩ : Shape), ⟨2, ![A, 256]⟩] ⟨2, ![2048, 256]⟩ 0)
    (h4 : (⟨2, ![2048, 256]⟩ : Shape).Slices ![2 ^ s, 0] ⟨2, ![A, 256]⟩)
    (h5 : (⟨2, ![2048, 256]⟩ : Shape).Slices ![0, 0] ⟨2, ![2 ^ s, 256]⟩)
    (h6 : Shape.Concatenates [(⟨2, ![A, 256]⟩ : Shape), ⟨2, ![2 ^ s, 256]⟩] ⟨2, ![2048, 256]⟩ 0)
    (h7 : (⟨2, ![2048, 1]⟩ : Shape).ShapeCasts ⟨2, ![2048, 1]⟩)
    (h8 : (⟨2, ![2048, 1]⟩ : Shape).Broadcasts ⟨2, ![2048, 256]⟩)
    (h9 : (⟨2, ![2048, 256]⟩ : Shape).ShapeCasts ⟨2, ![2048, 256]⟩)
    (X : FVec Ideal ⟨2, ![2048, 256]⟩ .bf16)

theorem set_of_add (i s : Nat) (h : i &&& 2 ^ s = 0) : (i + 2 ^ s) &&& 2 ^ s ≠ 0 := by
  rw [← xor_two_pow_of_clear i s h, Nat.and_xor_distrib_right, h, Nat.and_self, Nat.zero_xor]
  exact (Nat.two_pow_pos s).ne'

theorem other_bit (i s l : Nat) (h : i &&& 2 ^ s = 0) (hsl : s ≠ l) : (i + 2 ^ s) &&& 2 ^ l = i &&& 2 ^ l := by
  rw [← xor_two_pow_of_clear i s h, Nat.and_xor_distrib_right]
  have : 2 ^ s &&& 2 ^ l = 0 := by
    rw [and_two_pow_eq_zero_iff_testBit, Nat.testBit_two_pow]
    exact decide_eq_false hsl
  rw [this, Nat.xor_zero]

theorem word_zero_iff (i l : Nat) (hi : i < 2048) (hl : l < 31) :
    BitVec.ofNat 32 i &&& BitVec.ofNat 32 (2 ^ l) = 0#32 ↔ i &&& 2 ^ l = 0 := by
  rw [← word_and i l hi hl]
  show _ ↔ BitVec.ofBool (_ == 0#32) = 1#1
  by_cases h : (BitVec.ofNat 32 i &&& BitVec.ofNat 32 (2 ^ l)) = 0#32
  · simp [h]
  · rw [beq_eq_false_iff_ne.mpr h]; exact ⟨fun k => absurd k h, fun k => absurd k (by decide)⟩

include hs hsl hl hA in
theorem narrow_stage : StageAt s l X (narrow h0 h1 h2 h3 h4 h5 h6 h7 h8 h9 (BitVec.ofNat 32 (2 ^ s)) (BitVec.ofNat 32 (2 ^ (l + 1))) X) := by
  constructor
  · intro i i' j hi hi'
    rw [narrow_lo h0 h1 h2 h3 h4 h5 h6 h7 h8 h9 _ _ X i i' j hi' hA ((word_zero_iff i.val s i.isLt (by omega)).2 hi)]
    exact sel_eq _ _ (word_and _ _ i.isLt (by omega)) _ _
  · intro i i' j hi hi'
    rw [narrow_hi h0 h1 h2 h3 h4 h5 h6 h7 h8 h9 _ _ X i i' j hi' hA
      (fun h => set_of_add i.val s hi (hi' ▸ (word_zero_iff i'.val s i'.isLt (by omega)).1 h))]
    rw [sel_eq _ _ (word_and _ _ i'.isLt (by omega)), hi', other_bit i.val s (l + 1) hi (by omega), min_comm, max_comm]

end

section
variable (k : Fin k0_t3_loop.trips) (X : FVec Ideal S2048x256 .bf16)

theorem trips3 : k0_t3_loop.trips = 11 := by decide

theorem vk_eq : ∀ k : Fin k0_t3_loop.trips, vk k = BitVec.ofNat 32 (2 ^ (k.val + 1)) := by decide

theorem gd_iff : ∀ s : Fin 11, ∀ k : Fin k0_t3_loop.trips, gd k (BitVec.ofNat 32 (2 ^ s.val)) ↔ s.val ≤ k.val := by decide

theorem klt : k.val < 11 := lt_of_lt_of_eq k.isLt trips3

theorem st10 (h : 10 ≤ k.val) : StageAt 10 k.val X (k0_pay58 1#32 1#32 k X) := by
  have := wide_stage (G := 1) 10 k.val (by norm_num) h (klt k) (by norm_num) shapeCasts_S2048x256_S1x2x1024x256 slices_S1x2x1024x256_o0_0_0_0_S1x1x1024x256
    slices_S1x2x1024x256_o0_1_0_0_S1x1x1024x256 shapeCasts_S1x1x1024x256_S1x1024x256 iota_S1x1x1_d0_w32 shapeCasts_S1x1x1_S1x1x1 broadcasts_S1x1x1_S1x1024x256
    shapeCasts_S1x1024x256_S1x1x1024x256 concatenates_S1x1x1024x256_S1x1x1024x256_S1x2x1024x256_d1 shapeCasts_S1x2x1024x256_S2048x256 shapeCasts_S2048x256_S2048x256 X
  rw [← vk_eq k] at this
  exact this

theorem st9 (h : 9 ≤ k.val) : StageAt 9 k.val X (k0_pay59 1#32 1#32 k X) := by
  have := wide_stage (G := 2) 9 k.val (by norm_num) h (klt k) (by norm_num) shapeCasts_S2048x256_S2x2x512x256 slices_S2x2x512x256_o0_0_0_0_S2x1x512x256
    slices_S2x2x512x256_o0_1_0_0_S2x1x512x256 shapeCasts_S2x1x512x256_S2x512x256 iota_S2x1x1_d0_w32 shapeCasts_S2x1x1_S2x1x1 broadcasts_S2x1x1_S2x512x256
    shapeCasts_S2x512x256_S2x1x512x256 concatenates_S2x1x512x256_S2x1x512x256_S2x2x512x256_d1 shapeCasts_S2x2x512x256_S2048x256 shapeCasts_S2048x256_S2048x256 X
  rw [← vk_eq k] at this
  exact this

theorem st8 (h : 8 ≤ k.val) : StageAt 8 k.val X (k0_pay60 1#32 1#32 k X) := by
  have := wide_stage (G := 4) 8 k.val (by norm_num) h (klt k) (by norm_num) shapeCasts_S2048x256_S4x2x256x256 slices_S4x2x256x256_o0_0_0_0_S4x1x256x256
    slices_S4x2x256x256_o0_1_0_0_S4x1x256x256 shapeCasts_S4x1x256x256_S4x256x256 iota_S4x1x1_d0_w32 shapeCasts_S4x1x1_S4x1x1 broadcasts_S4x1x1_S4x256x256
    shapeCasts_S4x256x256_S4x1x256x256 concatenates_S4x1x256x256_S4x1x256x256_S4x2x256x256_d1 shapeCasts_S4x2x256x256_S2048x256 shapeCasts_S2048x256_S2048x256 X
  rw [← vk_eq k] at this
  exact this

theorem st7 (h : 7 ≤ k.val) : StageAt 7 k.val X (k0_pay61 1#32 1#32 k X) := by
  have := wide_stage (G := 8) 7 k.val (by norm_num) h (klt k) (by norm_num) shapeCasts_S2048x256_S8x2x128x256 slices_S8x2x128x256_o0_0_0_0_S8x1x128x256
    slices_S8x2x128x256_o0_1_0_0_S8x1x128x256 shapeCasts_S8x1x128x256_S8x128x256 iota_S8x1x1_d0_w32 shapeCasts_S8x1x1_S8x1x1 broadcasts_S8x1x1_S8x128x256
    shapeCasts_S8x128x256_S8x1x128x256 concatenates_S8x1x128x256_S8x1x128x256_S8x2x128x256_d1 shapeCasts_S8x2x128x256_S2048x256 shapeCasts_S2048x256_S2048x256 X
  rw [← vk_eq k] at this
  exact this

theorem st6 (h : 6 ≤ k.val) : StageAt 6 k.val X (k0_pay62 1#32 1#32 k X) := by
  have := wide_stage (G := 16) 6 k.val (by norm_num) h (klt k) (by norm_num) shapeCasts_S2048x256_S16x2x64x256 slices_S16x2x64x256_o0_0_0_0_S16x1x64x256
    slices_S16x2x64x256_o0_1_0_0_S16x1x64x256 shapeCasts_S16x1x64x256_S16x64x256 iota_S16x1x1_d0_w32 shapeCasts_S16x1x1_S16x1x1 broadcasts_S16x1x1_S16x64x256
    shapeCasts_S16x64x256_S16x1x64x256 concatenates_S16x1x64x256_S16x1x64x256_S16x2x64x256_d1 shapeCasts_S16x2x64x256_S2048x256 shapeCasts_S2048x256_S2048x256 X
  rw [← vk_eq k] at this
  exact this

theorem st5 (h : 5 ≤ k.val) : StageAt 5 k.val X (k0_pay63 1#32 1#32 k X) := by
  have := wide_stage (G := 32) 5 k.val (by norm_num) h (klt k) (by norm_num) shapeCasts_S2048x256_S32x2x32x256 slices_S32x2x32x256_o0_0_0_0_S32x1x32x256
    slices_S32x2x32x256_o0_1_0_0_S32x1x32x256 shapeCasts_S32x1x32x256_S32x32x256 iota_S32x1x1_d0_w32 shapeCasts_S32x1x1_S32x1x1 broadcasts_S32x1x1_S32x32x256
    shapeCasts_S32x32x256_S32x1x32x256 concatenates_S32x1x32x256_S32x1x32x256_S32x2x32x256_d1 shapeCasts_S32x2x32x256_S2048x256 shapeCasts_S2048x256_S2048x256 X
  rw [← vk_eq k] at this
  exact this

theorem st4 (h : 4 ≤ k.val) : StageAt 4 k.val X (k0_pay64 1#32 1#32 k X) := by
  have := wide_stage (G := 64) 4 k.val (by norm_num) h (klt k) (by norm_num) shapeCasts_S2048x256_S64x2x16x256 slices_S64x2x16x256_o0_0_0_0_S64x1x16x256
    slices_S64x2x16x256_o0_1_0_0_S64x1x16x256 shapeCasts_S64x1x16x256_S64x16x256 iota_S64x1x1_d0_w32 shapeCasts_S64x1x1_S64x1x1 broadcasts_S64x1x1_S64x16x256
    shapeCasts_S64x16x256_S64x1x16x256 concatenates_S64x1x16x256_S64x1x16x256_S64x2x16x256_d1 shapeCasts_S64x2x16x256_S2048x256 shapeCasts_S2048x256_S2048x256 X
  rw [← vk_eq k] at this
  exact this

theorem st3 (h : 3 ≤ k.val) : StageAt 3 k.val X (k0_pay84 (vk k) X) := by
  have := wide_stage (G := 128) 3 k.val (by norm_num) h (klt k) (by norm_num) shapeCasts_S2048x256_S128x2x8x256 slices_S128x2x8x256_o0_0_0_0_S128x1x8x256
    slices_S128x2x8x256_o0_1_0_0_S128x1x8x256 shapeCasts_S128x1x8x256_S128x8x256 iota_S128x1x1_d0_w32 shapeCasts_S128x1x1_S128x1x1 broadcasts_S128x1x1_S128x8x256
    shapeCasts_S128x8x256_S128x1x8x256 concatenates_S128x1x8x256_S128x1x8x256_S128x2x8x256_d1 shapeCasts_S128x2x8x256_S2048x256 shapeCasts_S2048x256_S2048x256 X
  rw [← vk_eq k] at this
  exact this

theorem st2 (h : 2 ≤ k.val) : StageAt 2 k.val X (k0_pay85 (vk k) X) := by
  have := narrow_stage (A := 2044) 2 k.val (by norm_num) h (klt k) (by norm_num) iota_S2048x1_d0_w32 slices_S2048x256_o2044_0_S4x256 slices_S2048x256_o0_0_S2044x256
    concatenates_S4x256_S2044x256_S2048x256_d0 slices_S2048x256_o4_0_S2044x256 slices_S2048x256_o0_0_S4x256 concatenates_S2044x256_S4x256_S2048x256_d0
    shapeCasts_S2048x1_S2048x1 broadcasts_S2048x1_S2048x256 shapeCasts_S2048x256_S2048x256 X
  rw [← vk_eq k] at this
  exact this

theorem st1 (h : 1 ≤ k.val) : StageAt 1 k.val X (k0_pay86 (vk k) X) := by
  have := narrow_stage (A := 2046) 1 k.val (by norm_num) h (klt k) (by norm_num) iota_S2048x1_d0_w32 slices_S2048x256_o2046_0_S2x256 slices_S2048x256_o0_0_S2046x256
    concatenates_S2x256_S2046x256_S2048x256_d0 slices_S2048x256_o2_0_S2046x256 slices_S2048x256_o0_0_S2x256 concatenates_S2046x256_S2x256_S2048x256_d0
    shapeCasts_S2048x1_S2048x1 broadcasts_S2048x1_S2048x256 shapeCasts_S2048x256_S2048x256 X
  rw [← vk_eq k] at this
  exact this

theorem st0 (h : 0 ≤ k.val) : StageAt 0 k.val X (k0_pay87 (vk k) X) := by
  have := narrow_stage (A := 2047) 0 k.val (by norm_num) h (klt k) (by norm_num) iota_S2048x1_d0_w32 slices_S2048x256_o2047_0_S1x256 slices_S2048x256_o0_0_S2047x256
    concatenates_S1x256_S2047x256_S2048x256_d0 slices_S2048x256_o1_0_S2047x256 slices_S2048x256_o0_0_S1x256 concatenates_S2047x256_S1x256_S2048x256_d0
    shapeCasts_S2048x1_S2048x1 broadcasts_S2048x1_S2048x256 shapeCasts_S2048x256_S2048x256 X
  rw [← vk_eq k] at this
  exact this

/-- A guarded stage over a column. -/
theorem stg_net (s : Fin 11) (g : FVec Ideal S2048x256 .bf16 → FVec Ideal S2048x256 .bf16) (hg : s.val ≤ k.val → StageAt s.val k.val X (g X)) (j : Fin 256) :
    colOf (stg (F := Ideal) k (BitVec.ofNat 32 (2 ^ s.val)) g X) j
      = Network.apply (if s.val ≤ k.val then stage 11 s.val (fun i => (decide (i.val &&& 2 ^ (k.val + 1) = 0)) == true) else []) (colOf X j) := by
  unfold stg
  by_cases h : s.val ≤ k.val
  · rw [if_pos ((gd_iff s k).2 h), if_pos h]
    exact (hg h).net s.isLt j
  · rw [if_neg fun q => h ((gd_iff s k).1 q), if_neg h]
    rfl

theorem lvl_net (j : Fin 256) : colOf (lvl (F := Ideal) k X) j = Network.apply (levelNet 11 true k.val) (colOf X j) := by
  show colOf (stg (F := Ideal) k (BitVec.ofNat 32 (2 ^ (0 : Fin 11).val)) (k0_pay87 (vk k)) (stg (F := Ideal) k (BitVec.ofNat 32 (2 ^ (1 : Fin 11).val)) (k0_pay86 (vk k)) (stg (F := Ideal) k (BitVec.ofNat 32 (2 ^ (2 : Fin 11).val)) (k0_pay85 (vk k)) (stg (F := Ideal) k (BitVec.ofNat 32 (2 ^ (3 : Fin 11).val)) (k0_pay84 (vk k)) (stg (F := Ideal) k (BitVec.ofNat 32 (2 ^ (4 : Fin 11).val)) (k0_pay64 1#32 1#32 k) (stg (F := Ideal) k (BitVec.ofNat 32 (2 ^ (5 : Fin 11).val)) (k0_pay63 1#32 1#32 k) (stg (F := Ideal) k (BitVec.ofNat 32 (2 ^ (6 : Fin 11).val)) (k0_pay62 1#32 1#32 k) (stg (F := Ideal) k (BitVec.ofNat 32 (2 ^ (7 : Fin 11).val)) (k0_pay61 1#32 1#32 k) (stg (F := Ideal) k (BitVec.ofNat 32 (2 ^ (8 : Fin 11).val)) (k0_pay60 1#32 1#32 k) (stg (F := Ideal) k (BitVec.ofNat 32 (2 ^ (9 : Fin 11).val)) (k0_pay59 1#32 1#32 k) (stg (F := Ideal) k (BitVec.ofNat 32 (2 ^ (10 : Fin 11).val)) (k0_pay58 1#32 1#32 k) X))))))))))) j = _
  rw [stg_net k _ 0 _ (fun h => st0 k _ h), stg_net k _ 1 _ (fun h => st1 k _ h), stg_net k _ 2 _ (fun h => st2 k _ h), stg_net k _ 3 _ (fun h => st3 k _ h), stg_net k _ 4 _ (fun h => st4 k _ h), stg_net k _ 5 _ (fun h => st5 k _ h), stg_net k _ 6 _ (fun h => st6 k _ h), stg_net k _ 7 _ (fun h => st7 k _ h), stg_net k _ 8 _ (fun h => st8 k _ h), stg_net k _ 9 _ (fun h => st9 k _ h), stg_net k _ 10 _ (fun h => st10 k _ h)]
  simp only [← Network.apply_append]
  congr 1
  have hk := klt k
  unfold levelNet
  generalize k.val = l at hk ⊢
  interval_cases l <;> simp [List.range_succ]

theorem lvls_net (n : Nat) (hn : n ≤ 11) (j : Fin 256) : colOf (lvls (F := Ideal) X n) j = Network.apply (levelsNet 11 true n) (colOf X j) := by
  induction n with
  | zero => rfl
  | succ n ih =>
    have e := lvls_succ (F := Ideal) X (⟨n, lt_of_lt_of_eq (by omega : n < 11) trips3.symm⟩ : Fin k0_t3_loop.trips)
    rw [levelsNet_succ, Network.apply_append, ← ih (by omega), e, lvl_net]

/-- The eleven levels sort every column, the greatest first. -/
theorem lvls_sorts (j : Fin 256) : Antitone (colOf (lvls (F := Ideal) X 11) j) ∧ ∃ σ : Equiv.Perm (Fin (2 ^ 11)), ∀ i, colOf (lvls (F := Ideal) X 11) j i = colOf X j (σ i) := by
  rw [lvls_net X 11 le_rfl j, ← sortNet_eq_levelsNet]
  exact ⟨sortNet_apply_antitone 11 _, (Network.exists_perm _ _).imp fun σ h i => congrFun h i⟩

end

end Cert.KernelIdeal.Gen

end
-- ==== Proof.Val.Waves.lean ====
/- The wave tables of the kernel, as real cosines and sines. -/
module

public import proofs.«01_k».proof.Proof.KI.Run
public import Idealize.ShloMosaic.PureOps.IdealRules
public import Idealize.ShloMosaic.Lib.ValueIdx
public import Idealize.ShloMosaic.Lib.ValueLayout

@[expose] public section

set_option maxRecDepth 16384

noncomputable section

namespace Cert.KernelIdeal.Gen

open Idealize.ShloMosaic Idealize.ShloMosaic.TcCoe
open Idealize.ShloMosaic.ValueIdx

/-- The angle of step `m` out of 2048 round the circle. -/
def wv (m : ℕ) : ℝ := (m : ℝ) * (Real.pi * 1024⁻¹)

theorem wv_mod (m : ℕ) : wv m = wv (m % 2048) + (m / 2048 : ℕ) * (2 * Real.pi) := by
  unfold wv
  conv_lhs => rw [← Nat.mod_add_div m 2048]
  push_cast
  ring

theorem cos_wv_mod (m : ℕ) : Real.cos (wv (m % 2048)) = Real.cos (wv m) := by
  rw [wv_mod m, Real.cos_add_nat_mul_two_pi]

theorem sin_wv_mod (m : ℕ) : Real.sin (wv (m % 2048)) = Real.sin (wv m) := by
  rw [wv_mod m, Real.sin_add_nat_mul_two_pi]

theorem wv_add (a b : ℕ) : wv (a + b) = wv a + wv b := by
  unfold wv; push_cast; ring

def cw (f n : ℕ) : ℝ := Real.cos (wv (f * n))
def sw (f n : ℕ) : ℝ := Real.sin (wv (f * n))

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem step_named : Named.named (F := Ideal) κ "two_pi_over_s" (φ := .f32) 0x3B490FDB#32 = ((Real.pi * 1024⁻¹ : ℝ) : EReal) :=
  IdealRules.named_const.ideal_named_scalar _ _ _ _ rfl

/-- A word product taken modulo 2048, converted. -/
theorem word_step (a b : ℕ) (ha : a < 4096) (hb : b < 4096) :
    FloatOps.sitofp (F := Ideal) .f32 ((BitVec.ofNat 32 a * BitVec.ofNat 32 b) &&& 2047#32) = (((a * b % 2048 : ℕ) : ℝ) : EReal) := by
  have hab : a * b < 2 ^ 24 := by nlinarith
  have h : ((BitVec.ofNat 32 a * BitVec.ofNat 32 b) &&& 2047#32) = BitVec.ofNat 32 (a * b % 2048) := by
    apply BitVec.eq_of_toNat_eq
    rw [BitVec.toNat_and, BitVec.toNat_mul, BitVec.toNat_ofNat, BitVec.toNat_ofNat, BitVec.toNat_ofNat, BitVec.toNat_ofNat,
      Nat.mod_eq_of_lt (show a < 2 ^ 32 by omega), Nat.mod_eq_of_lt (show b < 2 ^ 32 by omega), Nat.mod_eq_of_lt (show a * b < 2 ^ 32 by omega),
      Nat.mod_eq_of_lt (show a * b % 2048 < 2 ^ 32 by omega), Nat.mod_eq_of_lt (show 2047 < 2 ^ 32 by omega),
      show 2047 = 2 ^ 11 - 1 by norm_num, Nat.and_two_pow_sub_one_eq_mod]
  rw [h]
  show (((BitVec.ofNat 32 (a * b % 2048)).toInt : ℝ) : EReal) = _
  have h2 : (BitVec.ofNat 32 (a * b % 2048)).toInt = ((a * b % 2048 : ℕ) : ℤ) := by
    have h3 : (BitVec.ofNat 32 (a * b % 2048)).toNat = a * b % 2048 := by
      rw [BitVec.toNat_ofNat]; exact Nat.mod_eq_of_lt (by omega)
    rw [BitVec.toInt_eq_toNat_of_lt (by rw [h3]; omega), h3]
  rw [h2]; norm_cast

theorem pay4_at (f : Fin 256) (n : Fin 2048) : k0_pay4 (F := Ideal) (ix2 f n) = ((wv (f.val * n.val % 2048) : ℝ) : EReal) := by
  have h := word_step f.val n.val (by omega) (by omega)
  show FloatOps.sitofp (F := Ideal) .f32 ((BitVec.ofNat 32 (0 * 256 + f.val) * BitVec.ofNat 32 (0 * 2048 + n.val)) &&& 2047#32)
    * Named.named (F := Ideal) κ "two_pi_over_s" (φ := .f32) 0x3B490FDB#32 = _
  simp only [Nat.zero_mul, Nat.zero_add]
  rw [h, step_named, ← EReal.coe_mul]
  rfl

/-- A row of angles: the column number times `d`. -/
theorem row_at (d : ℕ) (hd : d < 4096) (n : Fin 2048) :
    FloatOps.sitofp (F := Ideal) .f32 ((BitVec.ofNat 32 (0 * 2048 + n.val) * BitVec.ofNat 32 d) &&& 2047#32)
      * Named.named (F := Ideal) κ "two_pi_over_s" (φ := .f32) 0x3B490FDB#32 = ((wv (n.val * d % 2048) : ℝ) : EReal) := by
  rw [Nat.zero_mul, Nat.zero_add, word_step n.val d (by omega) hd, step_named, ← EReal.coe_mul]
  rfl

theorem pay13_at (i : Fin 1) (n : Fin 2048) : k0_pay13 (F := Ideal) (ix2 i n) = ((wv (n.val * 256 % 2048) : ℝ) : EReal) :=
  row_at 256 (by norm_num) n
theorem pay26_at (i : Fin 1) (n : Fin 2048) : k0_pay26 (F := Ideal) (iota .tc S1x2048 32 [1] iota_S1x2048_d1_w32) (ix2 i n) = ((wv (n.val * 512 % 2048) : ℝ) : EReal) :=
  row_at 512 (by norm_num) n
theorem pay39_at (i : Fin 1) (n : Fin 2048) : k0_pay39 (F := Ideal) (iota .tc S1x2048 32 [1] iota_S1x2048_d1_w32) (ix2 i n) = ((wv (n.val * 768 % 2048) : ℝ) : EReal) :=
  row_at 768 (by norm_num) n

theorem cos_coe (r : ℝ) : Ideal.cos (r : EReal) = ((Real.cos r : ℝ) : EReal) := rfl
theorem sin_coe (r : ℝ) : Ideal.sin (r : EReal) = ((Real.sin r : ℝ) : EReal) := rfl

theorem pay5_at (f : Fin 256) (n : Fin 2048) : k0_pay5 (F := Ideal) (ix2 f n) = ((cw f.val n.val : ℝ) : EReal) := by
  show Ideal.cos (k0_pay4 (F := Ideal) (ix2 f n)) = _
  rw [pay4_at, cos_coe, cos_wv_mod]; rfl
theorem pay6_at (f : Fin 256) (n : Fin 2048) : k0_pay6 (F := Ideal) (ix2 f n) = ((sw f.val n.val : ℝ) : EReal) := by
  show Ideal.sin (k0_pay4 (F := Ideal) (ix2 f n)) = _
  rw [pay4_at, sin_coe, sin_wv_mod]; rfl

/-- A one-row array spread over 256 rows. -/
theorem spread_at (v : FVec Ideal S1x2048 .f32) (f : Fin 256) (n : Fin 2048) :
    broadcastTo S256x2048 v broadcasts_S1x2048_S256x2048 (ix2 f n) = v (ix2 0 n) :=
  broadcastTo_1b_ab_apply _ _ _ _

theorem pay14_at (f : Fin 256) (n : Fin 2048) : broadcastTo S256x2048 (k0_pay14 (F := Ideal)) broadcasts_S1x2048_S256x2048 (ix2 f n) = ((cw 256 n.val : ℝ) : EReal) := by
  rw [spread_at]
  show Ideal.cos (k0_pay13 (F := Ideal) (ix2 0 n)) = _
  rw [pay13_at, cos_coe, cos_wv_mod, Nat.mul_comm]; rfl
theorem pay15_at (f : Fin 256) (n : Fin 2048) : broadcastTo S256x2048 (k0_pay15 (F := Ideal)) broadcasts_S1x2048_S256x2048 (ix2 f n) = ((sw 256 n.val : ℝ) : EReal) := by
  rw [spread_at]
  show Ideal.sin (k0_pay13 (F := Ideal) (ix2 0 n)) = _
  rw [pay13_at, sin_coe, sin_wv_mod, Nat.mul_comm]; rfl
theorem pay27_at (f : Fin 256) (n : Fin 2048) : broadcastTo S256x2048 (k0_pay27 (F := Ideal) (iota .tc S1x2048 32 [1] iota_S1x2048_d1_w32)) broadcasts_S1x2048_S256x2048 (ix2 f n) = ((cw 512 n.val : ℝ) : EReal) := by
  rw [spread_at]
  show Ideal.cos (k0_pay26 (F := Ideal) _ (ix2 0 n)) = _
  rw [pay26_at, cos_coe, cos_wv_mod, Nat.mul_comm]; rfl
theorem pay28_at (f : Fin 256) (n : Fin 2048) : broadcastTo S256x2048 (k0_pay28 (F := Ideal) (iota .tc S1x2048 32 [1] iota_S1x2048_d1_w32)) broadcasts_S1x2048_S256x2048 (ix2 f n) = ((sw 512 n.val : ℝ) : EReal) := by
  rw [spread_at]
  show Ideal.sin (k0_pay26 (F := Ideal) _ (ix2 0 n)) = _
  rw [pay26_at, sin_coe, sin_wv_mod, Nat.mul_comm]; rfl
theorem pay40_at (f : Fin 256) (n : Fin 2048) : broadcastTo S256x2048 (k0_pay40 (F := Ideal) (iota .tc S1x2048 32 [1] iota_S1x2048_d1_w32)) broadcasts_S1x2048_S256x2048 (ix2 f n) = ((cw 768 n.val : ℝ) : EReal) := by
  rw [spread_at]
  show Ideal.cos (k0_pay39 (F := Ideal) _ (ix2 0 n)) = _
  rw [pay39_at, cos_coe, cos_wv_mod, Nat.mul_comm]; rfl
theorem pay41_at (f : Fin 256) (n : Fin 2048) : broadcastTo S256x2048 (k0_pay41 (F := Ideal) (iota .tc S1x2048 32 [1] iota_S1x2048_d1_w32)) broadcasts_S1x2048_S256x2048 (ix2 f n) = ((sw 768 n.val : ℝ) : EReal) := by
  rw [spread_at]
  show Ideal.sin (k0_pay39 (F := Ideal) _ (ix2 0 n)) = _
  rw [pay39_at, sin_coe, sin_wv_mod, Nat.mul_comm]; rfl

theorem cw_add (a b n : ℕ) : cw (a + b) n = cw b n * cw a n - sw b n * sw a n := by
  unfold cw sw; rw [Nat.add_mul, wv_add, Real.cos_add]; ring
theorem sw_add (a b n : ℕ) : sw (a + b) n = sw b n * cw a n + cw b n * sw a n := by
  unfold cw sw; rw [Nat.add_mul, wv_add, Real.sin_add]; ring

theorem pass {A : Vec Ideal S256x2048 .bf16} (B : Vec Ideal S256x2048 .bf16) (h : A = shapeCast S256x2048 B shapeCasts_S256x2048_S256x2048)
    (y : S256x2048.Idx) : A y = B y := by
  rw [h]; exact shapeCast_apply _ _ _ _ rfl

theorem P5_at (b : Fin 4) (f : Fin 256) (n : Fin 2048) : P5 (F := Ideal) b (ix2 f n) = ((cw (256 * b.val + f.val) n.val : ℝ) : EReal) := by
  match b with
  | 0 => refine (pass (k0_pay7 (F := Ideal)) rfl _).trans ((pay5_at f n).trans ?_); simp
  | 1 =>
    refine (pass (k0_pay20 (F := Ideal) k0_pay6 k0_pay16 k0_pay17) rfl _).trans ?_
    show k0_pay5 (F := Ideal) (ix2 f n) * broadcastTo S256x2048 (k0_pay14 (F := Ideal)) broadcasts_S1x2048_S256x2048 (ix2 f n)
      - k0_pay6 (F := Ideal) (ix2 f n) * broadcastTo S256x2048 (k0_pay15 (F := Ideal)) broadcasts_S1x2048_S256x2048 (ix2 f n) = _
    rw [pay5_at, pay6_at, pay14_at, pay15_at, ← EReal.coe_mul, ← EReal.coe_mul, ← EReal.coe_sub, ← cw_add]; rfl
  | 2 =>
    refine (pass (k0_pay33 (F := Ideal) (k0_pay29 k0_pay5 k0_pay6 (iota .tc S1x2048 32 [1] iota_S1x2048_d1_w32))) rfl _).trans ?_
    show k0_pay5 (F := Ideal) (ix2 f n) * broadcastTo S256x2048 (k0_pay27 (F := Ideal) (iota .tc S1x2048 32 [1] iota_S1x2048_d1_w32)) broadcasts_S1x2048_S256x2048 (ix2 f n)
      - k0_pay6 (F := Ideal) (ix2 f n) * broadcastTo S256x2048 (k0_pay28 (F := Ideal) (iota .tc S1x2048 32 [1] iota_S1x2048_d1_w32)) broadcasts_S1x2048_S256x2048 (ix2 f n) = _
    rw [pay5_at, pay6_at, pay27_at, pay28_at, ← EReal.coe_mul, ← EReal.coe_mul, ← EReal.coe_sub, ← cw_add]; rfl
  | 3 =>
    refine (pass (k0_pay44 (F := Ideal) k0_pay5 k0_pay6 (iota .tc S1x2048 32 [1] iota_S1x2048_d1_w32)) rfl _).trans ?_
    show k0_pay5 (F := Ideal) (ix2 f n) * broadcastTo S256x2048 (k0_pay40 (F := Ideal) (iota .tc S1x2048 32 [1] iota_S1x2048_d1_w32)) broadcasts_S1x2048_S256x2048 (ix2 f n)
      - k0_pay6 (F := Ideal) (ix2 f n) * broadcastTo S256x2048 (k0_pay41 (F := Ideal) (iota .tc S1x2048 32 [1] iota_S1x2048_d1_w32)) broadcasts_S1x2048_S256x2048 (ix2 f n) = _
    rw [pay5_at, pay6_at, pay40_at, pay41_at, ← EReal.coe_mul, ← EReal.coe_mul, ← EReal.coe_sub, ← cw_add]; rfl

theorem P7_at (b : Fin 4) (f : Fin 256) (n : Fin 2048) : P7 (F := Ideal) b (ix2 f n) = ((sw (256 * b.val + f.val) n.val : ℝ) : EReal) := by
  match b with
  | 0 => refine (pass (k0_pay8 (F := Ideal)) rfl _).trans ((pay6_at f n).trans ?_); simp
  | 1 =>
    refine (pass (k0_pay21 (F := Ideal) k0_pay5 k0_pay6 k0_pay14 k0_pay15) rfl _).trans ?_
    show k0_pay6 (F := Ideal) (ix2 f n) * broadcastTo S256x2048 (k0_pay14 (F := Ideal)) broadcasts_S1x2048_S256x2048 (ix2 f n)
      + k0_pay5 (F := Ideal) (ix2 f n) * broadcastTo S256x2048 (k0_pay15 (F := Ideal)) broadcasts_S1x2048_S256x2048 (ix2 f n) = _
    rw [pay5_at, pay6_at, pay14_at, pay15_at, ← EReal.coe_mul, ← EReal.coe_mul, ← EReal.coe_add, ← sw_add]; rfl
  | 2 =>
    refine (pass (k0_pay34 (F := Ideal) (k0_pay30 k0_pay6 (iota .tc S1x2048 32 [1] iota_S1x2048_d1_w32)) (k0_pay31 k0_pay5 (iota .tc S1x2048 32 [1] iota_S1x2048_d1_w32))) rfl _).trans ?_
    show k0_pay6 (F := Ideal) (ix2 f n) * broadcastTo S256x2048 (k0_pay27 (F := Ideal) (iota .tc S1x2048 32 [1] iota_S1x2048_d1_w32)) broadcasts_S1x2048_S256x2048 (ix2 f n)
      + k0_pay5 (F := Ideal) (ix2 f n) * broadcastTo S256x2048 (k0_pay28 (F := Ideal) (iota .tc S1x2048 32 [1] iota_S1x2048_d1_w32)) broadcasts_S1x2048_S256x2048 (ix2 f n) = _
    rw [pay5_at, pay6_at, pay27_at, pay28_at, ← EReal.coe_mul, ← EReal.coe_mul, ← EReal.coe_add, ← sw_add]; rfl
  | 3 =>
    refine (pass (k0_pay46 (F := Ideal) k0_pay5 k0_pay6 (iota .tc S1x2048 32 [1] iota_S1x2048_d1_w32)) rfl _).trans ?_
    show k0_pay6 (F := Ideal) (ix2 f n) * broadcastTo S256x2048 (k0_pay40 (F := Ideal) (iota .tc S1x2048 32 [1] iota_S1x2048_d1_w32)) broadcasts_S1x2048_S256x2048 (ix2 f n)
      + k0_pay5 (F := Ideal) (ix2 f n) * broadcastTo S256x2048 (k0_pay41 (F := Ideal) (iota .tc S1x2048 32 [1] iota_S1x2048_d1_w32)) broadcasts_S1x2048_S256x2048 (ix2 f n) = _
    rw [pay5_at, pay6_at, pay40_at, pay41_at, ← EReal.coe_mul, ← EReal.coe_mul, ← EReal.coe_add, ← sw_add]; rfl

theorem coe_self (r : ℝ) (x : EReal) (h : x = (r : EReal)) : x - x = ((0 : ℝ) : EReal) := by
  rw [h, ← EReal.coe_sub, sub_self]

/-- What a rounding leaves of a real value: nothing. -/
def low (X : FVec Ideal S256x2048 .f32) : Vec Ideal S256x2048 .bf16 := fun y => X y - X y

theorem P6_at (b : Fin 4) (f : Fin 256) (n : Fin 2048) : P6 (F := Ideal) b (ix2 f n) = ((0 : ℝ) : EReal) := by
  have h := P5_at b f n
  match b with
  | 0 => exact (pass (low (k0_pay5 (F := Ideal))) rfl _).trans (coe_self _ _ ((pass (k0_pay7 (F := Ideal)) rfl _).symm.trans h))
  | 1 => exact (pass (low (k0_pay18 (F := Ideal) k0_pay6 k0_pay16 k0_pay17)) rfl _).trans (coe_self _ _ ((pass (k0_pay20 (F := Ideal) k0_pay6 k0_pay16 k0_pay17) rfl _).symm.trans h))
  | 2 => exact (pass (low (k0_pay29 (F := Ideal) k0_pay5 k0_pay6 (iota .tc S1x2048 32 [1] iota_S1x2048_d1_w32))) rfl _).trans (coe_self _ _ ((pass (k0_pay33 (F := Ideal) (k0_pay29 k0_pay5 k0_pay6 (iota .tc S1x2048 32 [1] iota_S1x2048_d1_w32))) rfl _).symm.trans h))
  | 3 => exact (pass (low (k0_pay42 (F := Ideal) k0_pay5 k0_pay6 (iota .tc S1x2048 32 [1] iota_S1x2048_d1_w32))) rfl _).trans (coe_self _ _ ((pass (k0_pay44 (F := Ideal) k0_pay5 k0_pay6 (iota .tc S1x2048 32 [1] iota_S1x2048_d1_w32)) rfl _).symm.trans h))

theorem P8_at (b : Fin 4) (f : Fin 256) (n : Fin 2048) : P8 (F := Ideal) b (ix2 f n) = ((0 : ℝ) : EReal) := by
  have h := P7_at b f n
  match b with
  | 0 => exact (pass (low (k0_pay6 (F := Ideal))) rfl _).trans (coe_self _ _ ((pass (k0_pay8 (F := Ideal)) rfl _).symm.trans h))
  | 1 => exact (pass (low (k0_pay19 (F := Ideal) k0_pay5 k0_pay6 k0_pay14 k0_pay15)) rfl _).trans (coe_self _ _ ((pass (k0_pay21 (F := Ideal) k0_pay5 k0_pay6 k0_pay14 k0_pay15) rfl _).symm.trans h))
  | 2 => exact (pass (low (k0_pay32 (F := Ideal) (k0_pay30 k0_pay6 (iota .tc S1x2048 32 [1] iota_S1x2048_d1_w32)) (k0_pay31 k0_pay5 (iota .tc S1x2048 32 [1] iota_S1x2048_d1_w32)))) rfl _).trans (coe_self _ _ ((pass (k0_pay34 (F := Ideal) (k0_pay30 k0_pay6 (iota .tc S1x2048 32 [1] iota_S1x2048_d1_w32)) (k0_pay31 k0_pay5 (iota .tc S1x2048 32 [1] iota_S1x2048_d1_w32))) rfl _).symm.trans h))
  | 3 => exact (pass (low (k0_pay43 (F := Ideal) k0_pay5 k0_pay6 (iota .tc S1x2048 32 [1] iota_S1x2048_d1_w32))) rfl _).trans (coe_self _ _ ((pass (k0_pay46 (F := Ideal) k0_pay5 k0_pay6 (iota .tc S1x2048 32 [1] iota_S1x2048_d1_w32)) rfl _).symm.trans h))

/-- A stack of blocks read at a position. -/
theorem stk_at {N C T : Nat} {e : EltTy} (hN : N = 256 * T) (P : Fin T → Vec Ideal ⟨2, ![256, C]⟩ e) (y : Fin N) (j : Fin C) :
    stk hN P (ix2 y j) = P ⟨y.val / 256, by omega⟩ (ix2 ⟨y.val % 256, Nat.mod_lt _ (by norm_num)⟩ j) := by
  unfold stk
  congr 1
  funext d
  match d with
  | ⟨0, _⟩ => rfl
  | ⟨1, _⟩ => rfl

theorem Tb5_at (f : Fin 1024) (n : Fin 2048) : Tb5 (F := Ideal) (ix2 f n) = ((cw f.val n.val : ℝ) : EReal) := by
  refine (stk_at (e := .bf16) _ _ f n).trans ((P5_at _ _ _).trans ?_)
  rw [Nat.div_add_mod]
theorem Tb7_at (f : Fin 1024) (n : Fin 2048) : Tb7 (F := Ideal) (ix2 f n) = ((sw f.val n.val : ℝ) : EReal) := by
  refine (stk_at (e := .bf16) _ _ f n).trans ((P7_at _ _ _).trans ?_)
  rw [Nat.div_add_mod]
theorem Tb6_at (f : Fin 1024) (n : Fin 2048) : Tb6 (F := Ideal) (ix2 f n) = ((0 : ℝ) : EReal) :=
  (stk_at (e := .bf16) _ _ f n).trans (P6_at _ _ _)
theorem Tb8_at (f : Fin 1024) (n : Fin 2048) : Tb8 (F := Ideal) (ix2 f n) = ((0 : ℝ) : EReal) :=
  (stk_at (e := .bf16) _ _ f n).trans (P8_at _ _ _)

end Cert.KernelIdeal.Gen

end
-- ==== Proof.Val.Words.lean ====
/- The float words both programs spell, as real numbers. -/
module

public import Idealize.ShloMosaic.PureOps.Ideal

@[expose] public section

noncomputable section

namespace Cert.KernelIdeal.Gen

open Idealize.ShloMosaic

theorem word_one : Ideal.ofBits .f32 0x3F800000#32 = ((1 : ℝ) : EReal) := by
  simp [Ideal.ofBits, Ideal.ieee, -EReal.coe_mul]; norm_num
theorem word_neg_one : Ideal.ofBits .f32 0xBF800000#32 = ((-1 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_2048 : Ideal.ofBits .f32 0x45000000#32 = ((2048 : ℝ) : EReal) := by
  simp [Ideal.ofBits, Ideal.ieee, -EReal.coe_mul]; norm_num
theorem word_inv_1024 : Ideal.ofBits .f32 0x3A800000#32 = ((1 / 1024 : ℝ) : EReal) := by
  simp [Ideal.ofBits, Ideal.ieee, -EReal.coe_mul]; norm_num
theorem word_inv_2048 : Ideal.ofBits .f32 0x3A000000#32 = ((1 / 2048 : ℝ) : EReal) := by
  simp [Ideal.ofBits, Ideal.ieee, -EReal.coe_mul]; norm_num
theorem word_bot : Ideal.ofBits .f32 0xFF800000#32 = ⊥ := by
  simp [Ideal.ofBits, Ideal.ieee]

end Cert.KernelIdeal.Gen

end
-- ==== Proof.Val.Spectra.lean ====
/- The spectra the kernel stores, as real sums. -/
module

public import proofs.«01_k».proof.Proof.Val.Waves
public import proofs.«01_k».proof.Proof.Val.Words
public import Idealize.ShloMosaic.PureOps.Ideal.Laws

@[expose] public section

set_option maxRecDepth 16384

noncomputable section

namespace Cert.KernelIdeal.Gen

open Idealize.ShloMosaic Idealize.ShloMosaic.TcCoe
open Idealize.ShloMosaic.ValueIdx

/-- The product of a 256 by 2048 block and a 2048 by 256 block of real entries. -/
theorem mmA (A : FVec Ideal S256x2048 .bf16) (B : FVec Ideal S2048x256 .bf16) (a : Fin 256 → Fin 2048 → ℝ) (b : Fin 2048 → Fin 256 → ℝ)
    (hA : ∀ i n, A (ix2 i n) = (a i n : EReal)) (hB : ∀ n j, B (ix2 n j) = (b n j : EReal)) (i j : Fin 256) :
    matmul dot_S256x2048_S2048x256_S256x256_1_0_0_1_n_n none A B (constant S256x256 .f32 0x00000000#32) (ix2 i j)
      = ((∑ n, a i n * b n j : ℝ) : EReal) := by
  simp only [matmul]
  rw [Ideal.matmul_constant_zero_apply, coe_sum,
    ← Equiv.sum_comp (contrEquiv1 dot_S256x2048_S2048x256_S256x256_1_0_0_1_n_n 2048 rfl rfl).symm]
  refine Finset.sum_congr rfl fun n _ => ?_
  have e1 : dot_S256x2048_S2048x256_S256x256_1_0_0_1_n_n.lhsIdx (ix2 i j) ((contrEquiv1 dot_S256x2048_S2048x256_S256x256_1_0_0_1_n_n 2048 rfl rfl).symm n) = ix2 i n := by
    funext d; match d with | ⟨0, _⟩ => rfl | ⟨1, _⟩ => rfl
  have e2 : dot_S256x2048_S2048x256_S256x256_1_0_0_1_n_n.rhsIdx (ix2 i j) ((contrEquiv1 dot_S256x2048_S2048x256_S256x256_1_0_0_1_n_n 2048 rfl rfl).symm n) = ix2 n j := by
    funext d; match d with | ⟨0, _⟩ => rfl | ⟨1, _⟩ => rfl
  rw [e1, e2, hA, hB, EReal.coe_mul]

/-- The product over the rows of two blocks of 1024 rows. -/
theorem mmB (A B : FVec Ideal S1024x256 .bf16) (a b : Fin 1024 → Fin 256 → ℝ)
    (hA : ∀ f i, A (ix2 f i) = (a f i : EReal)) (hB : ∀ f j, B (ix2 f j) = (b f j : EReal)) (i j : Fin 256) :
    matmul dot_S1024x256_S1024x256_S256x256_0_0_1_1_n_n none A B (constant S256x256 .f32 0x00000000#32) (ix2 i j)
      = ((∑ f, a f i * b f j : ℝ) : EReal) := by
  simp only [matmul]
  rw [Ideal.matmul_constant_zero_apply, coe_sum,
    ← Equiv.sum_comp (contrEquiv1 dot_S1024x256_S1024x256_S256x256_0_0_1_1_n_n 1024 rfl rfl).symm]
  refine Finset.sum_congr rfl fun n _ => ?_
  have e1 : dot_S1024x256_S1024x256_S256x256_0_0_1_1_n_n.lhsIdx (ix2 i j) ((contrEquiv1 dot_S1024x256_S1024x256_S256x256_0_0_1_1_n_n 1024 rfl rfl).symm n) = ix2 n i := by
    funext d; match d with | ⟨0, _⟩ => rfl | ⟨1, _⟩ => rfl
  have e2 : dot_S1024x256_S1024x256_S256x256_0_0_1_1_n_n.rhsIdx (ix2 i j) ((contrEquiv1 dot_S1024x256_S1024x256_S256x256_0_0_1_1_n_n 1024 rfl rfl).symm n) = ix2 n j := by
    funext d; match d with | ⟨0, _⟩ => rfl | ⟨1, _⟩ => rfl
  rw [e1, e2, hA, hB, EReal.coe_mul]

theorem rowsOf_at (T : Vec Ideal S1024x2048 .bf16) (k : Fin k0_t1_loop.trips) (i : Fin 256) (n : Fin 2048) (hk : 256 * k.val + i.val < 1024) :
    rowsOf T k (ix2 i n) = T (ix2 ⟨256 * k.val + i.val, hk⟩ n) := by
  unfold rowsOf
  refine View.ld_unit_apply_of T _ _ _ _ _ fun a => ?_
  rw [congrFun (k0_off1_eq k) a]
  match a with
  | ⟨0, _⟩ => rfl
  | ⟨1, _⟩ => exact (Nat.zero_add _).symm

theorem colsOf_at (T : Vec Ideal S1024x2048 .bf16) (k : Fin k0_t2_loop.trips) (f : Fin 1024) (i : Fin 256) (hk : 256 * k.val + i.val < 2048) :
    colsOf T k (ix2 f i) = T (ix2 f ⟨256 * k.val + i.val, hk⟩) := by
  unfold colsOf
  refine View.ld_unit_apply_of T _ _ _ _ _ fun a => ?_
  rw [congrFun (k0_off3_eq k) a]
  match a with
  | ⟨0, _⟩ => exact (Nat.zero_add _).symm
  | ⟨1, _⟩ => rfl

theorem row0_at (R : Vec Ideal S1024x256 .bf16) (i : Fin 1) (j : Fin 256) : row0 R (ix2 i j) = R (ix2 0 j) := by
  unfold row0
  refine View.ld_unit_apply_of R _ _ _ _ _ fun a => ?_
  match a with
  | ⟨0, _⟩ => show 0 = 0 + i.val; omega
  | ⟨1, _⟩ => exact (Nat.zero_add _).symm

theorem id_big {e : EltTy} (v : Vec Ideal S2048x256 e) (y : S2048x256.Idx) : shapeCast S2048x256 v shapeCasts_S2048x256_S2048x256 y = v y :=
  shapeCast_apply _ _ _ _ rfl
theorem id_sq {e : EltTy} (v : Vec Ideal S256x256 e) (y : S256x256.Idx) : shapeCast S256x256 v shapeCasts_S256x256_S256x256 y = v y :=
  shapeCast_apply _ _ _ _ rfl

theorem passq {A : Vec Ideal S256x256 .bf16} (B : Vec Ideal S256x256 .bf16) (h : A = shapeCast S256x256 B shapeCasts_S256x256_S256x256)
    (y : S256x256.Idx) : A y = B y := by
  rw [h]; exact shapeCast_apply _ _ _ _ rfl
/-- What a rounding leaves of a real value: nothing. -/
def lowq (X : FVec Ideal S256x256 .f32) : Vec Ideal S256x256 .bf16 := fun y => X y - X y

section
variable (x0 x1 : Vec Ideal S2048x256 .f32) (q k : Fin 2048 → Fin 256 → ℝ)
  (hq : ∀ n j, x0 (ix2 n j) = (q n j : EReal)) (hk : ∀ n j, x1 (ix2 n j) = (k n j : EReal))

theorem hi0 (n j) (hq : ∀ n j, x0 (ix2 n j) = (q n j : EReal)) : k0_pay48 (F := Ideal) x0 (ix2 n j) = (q n j : EReal) := (id_big (e := .f32) x0 _).trans (hq n j)
theorem lo0 (n j) (hq : ∀ n j, x0 (ix2 n j) = (q n j : EReal)) : k0_pay49 (F := Ideal) x0 (ix2 n j) = ((0 : ℝ) : EReal) :=
  coe_self (q n j) _ ((id_big (e := .f32) x0 _).trans (hq n j))
theorem hi1 (n j) (hq : ∀ n j, x0 (ix2 n j) = (q n j : EReal)) : k0_pay51 (F := Ideal) x0 (ix2 n j) = (q n j : EReal) := (id_big (e := .f32) x0 _).trans (hq n j)
theorem lo1 (n j) (hq : ∀ n j, x0 (ix2 n j) = (q n j : EReal)) : k0_pay52 (F := Ideal) x0 (ix2 n j) = ((0 : ℝ) : EReal) :=
  coe_self (q n j) _ ((id_big (e := .f32) x0 _).trans (hq n j))

/-- The cosine and the sine transform of a column. -/
def CT (f : ℕ) (j : Fin 256) : ℝ := ∑ n : Fin 2048, cw f n.val * q n j
def ST (f : ℕ) (j : Fin 256) : ℝ := ∑ n : Fin 2048, sw f n.val * q n j

variable (b : Fin k0_t1_loop.trips) (i j : Fin 256)

theorem fr (b : Fin k0_t1_loop.trips) (i : Fin 256) : 256 * b.val + i.val < 1024 := by
  have h : b.val < 4 := lt_of_lt_of_eq b.isLt trips1
  omega

theorem pay53_at (hq : ∀ n j, x0 (ix2 n j) = (q n j : EReal)) :
    k0_pay53 (F := Ideal) (rowsOf Tb5 b) (rowsOf Tb6 b) x0 (ix2 i j) = ((CT q (256 * b.val + i.val) j : ℝ) : EReal) := by
  have h1 := mmA (rowsOf (F := Ideal) Tb5 b) (k0_pay48 (F := Ideal) x0) (fun i n => cw (256 * b.val + i.val) n.val) q (fun i n => by rw [rowsOf_at _ _ _ _ (fr b i), Tb5_at]) (fun n j => hi0 x0 q n j hq) i j
  have h2 := mmA (rowsOf (F := Ideal) Tb5 b) (k0_pay49 (F := Ideal) x0) (fun i n => cw (256 * b.val + i.val) n.val) (fun _ _ => 0) (fun i n => by rw [rowsOf_at _ _ _ _ (fr b i), Tb5_at]) (fun n j => lo0 x0 q n j hq) i j
  have h3 := mmA (rowsOf (F := Ideal) Tb6 b) (k0_pay48 (F := Ideal) x0) (fun i n => 0) q (fun i n => by rw [rowsOf_at _ _ _ _ (fr b i), Tb6_at]) (fun n j => hi0 x0 q n j hq) i j
  refine (congrArg₂ (· + ·) (congrArg₂ (· + ·) h1 h2) h3).trans ?_
  show _ + _ + _ = _
  rw [← EReal.coe_add, ← EReal.coe_add]
  simp [CT]

theorem pay55_at (hq : ∀ n j, x0 (ix2 n j) = (q n j : EReal)) :
    k0_pay55 (F := Ideal) (rowsOf Tb5 b) (rowsOf Tb6 b) x0 (ix2 i j) = ((CT q (256 * b.val + i.val) j : ℝ) : EReal) := by
  have h1 := mmA (rowsOf (F := Ideal) Tb5 b) (k0_pay51 (F := Ideal) x0) (fun i n => cw (256 * b.val + i.val) n.val) q (fun i n => by rw [rowsOf_at _ _ _ _ (fr b i), Tb5_at]) (fun n j => hi1 x0 q n j hq) i j
  have h2 := mmA (rowsOf (F := Ideal) Tb5 b) (k0_pay52 (F := Ideal) x0) (fun i n => cw (256 * b.val + i.val) n.val) (fun _ _ => 0) (fun i n => by rw [rowsOf_at _ _ _ _ (fr b i), Tb5_at]) (fun n j => lo1 x0 q n j hq) i j
  have h3 := mmA (rowsOf (F := Ideal) Tb6 b) (k0_pay51 (F := Ideal) x0) (fun i n => 0) q (fun i n => by rw [rowsOf_at _ _ _ _ (fr b i), Tb6_at]) (fun n j => hi1 x0 q n j hq) i j
  refine (congrArg₂ (· + ·) (congrArg₂ (· + ·) h1 h2) h3).trans ?_
  show _ + _ + _ = _
  rw [← EReal.coe_add, ← EReal.coe_add]
  simp [CT]

theorem pay54_at (hq : ∀ n j, x0 (ix2 n j) = (q n j : EReal)) :
    k0_pay54 (F := Ideal) (rowsOf Tb7 b) (rowsOf Tb8 b) x0 (ix2 i j) = ((ST q (256 * b.val + i.val) j : ℝ) : EReal) := by
  have h1 := mmA (rowsOf (F := Ideal) Tb7 b) (k0_pay48 (F := Ideal) x0) (fun i n => sw (256 * b.val + i.val) n.val) q (fun i n => by rw [rowsOf_at _ _ _ _ (fr b i), Tb7_at]) (fun n j => hi0 x0 q n j hq) i j
  have h2 := mmA (rowsOf (F := Ideal) Tb7 b) (k0_pay49 (F := Ideal) x0) (fun i n => sw (256 * b.val + i.val) n.val) (fun _ _ => 0) (fun i n => by rw [rowsOf_at _ _ _ _ (fr b i), Tb7_at]) (fun n j => lo0 x0 q n j hq) i j
  have h3 := mmA (rowsOf (F := Ideal) Tb8 b) (k0_pay48 (F := Ideal) x0) (fun i n => 0) q (fun i n => by rw [rowsOf_at _ _ _ _ (fr b i), Tb8_at]) (fun n j => hi0 x0 q n j hq) i j
  refine (congrArg₂ (· + ·) (congrArg₂ (· + ·) h1 h2) h3).trans ?_
  show _ + _ + _ = _
  rw [← EReal.coe_add, ← EReal.coe_add]
  simp [ST]

theorem pay70_at (hq : ∀ n j, x0 (ix2 n j) = (q n j : EReal)) :
    k0_pay70 (F := Ideal) (rowsOf Tb8 b) (k0_pay51 x0) (k0_pay56 (rowsOf Tb7 b) x0) (ix2 i j) = ((ST q (256 * b.val + i.val) j : ℝ) : EReal) := by
  have h1 := mmA (rowsOf (F := Ideal) Tb7 b) (k0_pay51 (F := Ideal) x0) (fun i n => sw (256 * b.val + i.val) n.val) q (fun i n => by rw [rowsOf_at _ _ _ _ (fr b i), Tb7_at]) (fun n j => hi1 x0 q n j hq) i j
  have h2 := mmA (rowsOf (F := Ideal) Tb7 b) (k0_pay52 (F := Ideal) x0) (fun i n => sw (256 * b.val + i.val) n.val) (fun _ _ => 0) (fun i n => by rw [rowsOf_at _ _ _ _ (fr b i), Tb7_at]) (fun n j => lo1 x0 q n j hq) i j
  have h3 := mmA (rowsOf (F := Ideal) Tb8 b) (k0_pay51 (F := Ideal) x0) (fun i n => 0) q (fun i n => by rw [rowsOf_at _ _ _ _ (fr b i), Tb8_at]) (fun n j => hi1 x0 q n j hq) i j
  refine (congrArg₂ (· + ·) (congrArg₂ (· + ·) h1 h2) h3).trans ?_
  show _ + _ + _ = _
  rw [← EReal.coe_add, ← EReal.coe_add]
  simp [ST]

/-- The real and the imaginary part of the cross spectrum. -/
def RE (f : ℕ) (j : Fin 256) : ℝ := CT q f j * CT k f j + ST q f j * ST k f j
def IM (f : ℕ) (j : Fin 256) : ℝ := CT q f j * ST k f j - ST q f j * CT k f j

include hq hk

theorem pay71_at : k0_pay71 (F := Ideal) (rowsOf Tb8 b) (k0_pay51 x1) (k0_pay53 (rowsOf Tb5 b) (rowsOf Tb6 b) x0) (k0_pay54 (rowsOf Tb7 b) (rowsOf Tb8 b) x0)
    (k0_pay55 (rowsOf Tb5 b) (rowsOf Tb6 b) x1) (k0_pay56 (rowsOf Tb7 b) x1) (ix2 i j) = ((RE q k (256 * b.val + i.val) j : ℝ) : EReal) := by
  show k0_pay53 (F := Ideal) (rowsOf Tb5 b) (rowsOf Tb6 b) x0 (ix2 i j) * k0_pay55 (F := Ideal) (rowsOf Tb5 b) (rowsOf Tb6 b) x1 (ix2 i j)
    + k0_pay54 (F := Ideal) (rowsOf Tb7 b) (rowsOf Tb8 b) x0 (ix2 i j) * k0_pay70 (F := Ideal) (rowsOf Tb8 b) (k0_pay51 x1) (k0_pay56 (rowsOf Tb7 b) x1) (ix2 i j) = _
  rw [pay53_at x0 q b i j hq, pay54_at x0 q b i j hq, pay55_at x1 k b i j hk, pay70_at x1 k b i j hk, ← EReal.coe_mul, ← EReal.coe_mul, ← EReal.coe_add]
  rfl

theorem pay73_at : k0_pay73 (F := Ideal) (rowsOf Tb8 b) (k0_pay51 x1) (k0_pay53 (rowsOf Tb5 b) (rowsOf Tb6 b) x0) (k0_pay54 (rowsOf Tb7 b) (rowsOf Tb8 b) x0)
    (k0_pay55 (rowsOf Tb5 b) (rowsOf Tb6 b) x1) (k0_pay56 (rowsOf Tb7 b) x1) (ix2 i j) = ((IM q k (256 * b.val + i.val) j : ℝ) : EReal) := by
  show k0_pay53 (F := Ideal) (rowsOf Tb5 b) (rowsOf Tb6 b) x0 (ix2 i j) * k0_pay70 (F := Ideal) (rowsOf Tb8 b) (k0_pay51 x1) (k0_pay56 (rowsOf Tb7 b) x1) (ix2 i j)
    - k0_pay54 (F := Ideal) (rowsOf Tb7 b) (rowsOf Tb8 b) x0 (ix2 i j) * k0_pay55 (F := Ideal) (rowsOf Tb5 b) (rowsOf Tb6 b) x1 (ix2 i j) = _
  rw [pay53_at x0 q b i j hq, pay54_at x0 q b i j hq, pay55_at x1 k b i j hk, pay70_at x1 k b i j hk, ← EReal.coe_mul, ← EReal.coe_mul, ← EReal.coe_sub]
  rfl

theorem sp9_at : sp9 x0 x1 Tb5 Tb6 Tb7 Tb8 b (ix2 i j) = ((RE q k (256 * b.val + i.val) j : ℝ) : EReal) :=
  (id_sq (e := .bf16) _ _).trans (pay71_at x0 x1 q k hq hk b i j)
theorem sp10_at : sp10 x0 x1 Tb5 Tb6 Tb7 Tb8 b (ix2 i j) = ((0 : ℝ) : EReal) :=
  (passq (lowq (k0_pay71 (F := Ideal) (rowsOf Tb8 b) (k0_pay51 x1) (k0_pay53 (rowsOf Tb5 b) (rowsOf Tb6 b) x0) (k0_pay54 (rowsOf Tb7 b) (rowsOf Tb8 b) x0) (k0_pay55 (rowsOf Tb5 b) (rowsOf Tb6 b) x1) (k0_pay56 (rowsOf Tb7 b) x1))) rfl _).trans (coe_self _ _ (pay71_at x0 x1 q k hq hk b i j))
theorem sp11_at : sp11 x0 x1 Tb5 Tb6 Tb7 Tb8 b (ix2 i j) = ((IM q k (256 * b.val + i.val) j : ℝ) : EReal) :=
  (id_sq (e := .bf16) _ _).trans (pay73_at x0 x1 q k hq hk b i j)
theorem sp12_at : sp12 x0 x1 Tb5 Tb6 Tb7 Tb8 b (ix2 i j) = ((0 : ℝ) : EReal) :=
  (passq (lowq (k0_pay73 (F := Ideal) (rowsOf Tb8 b) (k0_pay51 x1) (k0_pay53 (rowsOf Tb5 b) (rowsOf Tb6 b) x0) (k0_pay54 (rowsOf Tb7 b) (rowsOf Tb8 b) x0) (k0_pay55 (rowsOf Tb5 b) (rowsOf Tb6 b) x1) (k0_pay56 (rowsOf Tb7 b) x1))) rfl _).trans (coe_self _ _ (pay73_at x0 x1 q k hq hk b i j))

theorem R9_at (f : Fin 1024) (j : Fin 256) : R9 x0 x1 Tb5 Tb6 Tb7 Tb8 (ix2 f j) = ((RE q k f.val j : ℝ) : EReal) := by
  refine (stk_at (e := .bf16) _ _ f j).trans ((sp9_at x0 x1 q k hq hk _ _ _).trans ?_)
  rw [Nat.div_add_mod]
theorem R10_at (f : Fin 1024) (j : Fin 256) : R10 x0 x1 Tb5 Tb6 Tb7 Tb8 (ix2 f j) = ((0 : ℝ) : EReal) :=
  (stk_at (e := .bf16) _ _ f j).trans (sp10_at x0 x1 q k hq hk _ _ _)
theorem R11_at (f : Fin 1024) (j : Fin 256) : R11 x0 x1 Tb5 Tb6 Tb7 Tb8 (ix2 f j) = ((IM q k f.val j : ℝ) : EReal) := by
  refine (stk_at (e := .bf16) _ _ f j).trans ((sp11_at x0 x1 q k hq hk _ _ _).trans ?_)
  rw [Nat.div_add_mod]
theorem R12_at (f : Fin 1024) (j : Fin 256) : R12 x0 x1 Tb5 Tb6 Tb7 Tb8 (ix2 f j) = ((0 : ℝ) : EReal) :=
  (stk_at (e := .bf16) _ _ f j).trans (sp12_at x0 x1 q k hq hk _ _ _)

end

end Cert.KernelIdeal.Gen

end
-- ==== Proof.Val.Corr.lean ====
/- The correlation buffer, as a real number per position, in the two ways of summing the half spectrum. -/
module

public import proofs.«01_k».proof.Proof.Val.Spectra
public import proofs.«01_k».proof.Proof.Val.Net

@[expose] public section

set_option maxRecDepth 16384

noncomputable section

namespace Cert.KernelIdeal.Gen

open Idealize.ShloMosaic Idealize.ShloMosaic.TcCoe
open Idealize.ShloMosaic.ValueIdx

theorem cw_half (n : ℕ) : cw 1024 n = (-1) ^ n := by
  unfold cw wv
  rw [show ((1024 * n : ℕ) : ℝ) * (Real.pi * 1024⁻¹) = (n : ℝ) * Real.pi by push_cast; ring, Real.cos_nat_mul_pi]
theorem sw_half (n : ℕ) : sw 1024 n = 0 := by
  unfold sw wv
  rw [show ((1024 * n : ℕ) : ℝ) * (Real.pi * 1024⁻¹) = (n : ℝ) * Real.pi by push_cast; ring, Real.sin_nat_mul_pi]
theorem cw_zero (n : ℕ) : cw 0 n = 1 := by unfold cw wv; simp
theorem sw_zero (n : ℕ) : sw 0 n = 0 := by unfold sw wv; simp

/-- One or minus one by the parity of a row number. -/
theorem par_word (n : ℕ) (hn : n < 2048) :
    Scalar.select (Scalar.cmpi .eq (BitVec.ofNat 32 n &&& 1#32) 0#32) (Ideal.ofBits .f32 0x3F800000#32) (Ideal.ofBits .f32 0xBF800000#32)
      = ((cw 1024 n : ℝ) : EReal) := by
  have hw : (Scalar.cmpi .eq (BitVec.ofNat 32 n &&& 1#32) 0#32 = 1#1) ↔ n % 2 = 0 := by
    have h := word_and n 0 hn (by norm_num)
    rw [pow_zero, Nat.and_one_is_mod] at h
    exact h
  rw [sel_eq (n % 2 = 0) _ hw, cw_half, word_one, word_neg_one]
  by_cases h : n % 2 = 0
  · rw [if_pos h, (Nat.even_iff.2 h).neg_one_pow]
  · rw [if_neg h, (Nat.odd_iff.2 (by omega)).neg_one_pow]

theorem par_col (n : Fin 2048) (j : Fin 256) :
    broadcastTo S2048x256 (select (cmpi .eq (andi (iota .tc S2048x1 32 [0] iota_S2048x1_d0_w32) (broadcast S2048x1 1#32)) (broadcast S2048x1 0#32))
      (broadcast S2048x1 (Scalar.ofBits (F := Ideal) .f32 0x3F800000#32)) (broadcast S2048x1 (Scalar.ofBits (F := Ideal) .f32 0xBF800000#32)))
      broadcasts_S2048x1_S2048x256 (ix2 n j) = ((cw 1024 n.val : ℝ) : EReal) := by
  rw [broadcastTo_apply _ broadcasts_S2048x1_S2048x256 (ix2 n j) (ix2 n (0 : Fin 1)) (by
    intro a
    match a with
    | ⟨0, _⟩ => rfl
    | ⟨1, _⟩ => rfl)]
  rw [← par_word n.val n.isLt]
  show Scalar.select (Scalar.cmpi .eq (BitVec.ofNat 32 (0 * 2048 + n.val) &&& 1#32) 0#32) _ _ = _
  rw [Nat.zero_mul, Nat.zero_add]
  rfl

theorem pay81_at (i : Fin 256) (j : Fin 256) :
    broadcastTo S256x256 (k0_pay81 (F := Ideal) k0_pay80) broadcasts_S256x1_S256x256 (ix2 i j) = ((cw 1024 i.val : ℝ) : EReal) := by
  rw [broadcastTo_apply _ broadcasts_S256x1_S256x256 (ix2 i j) (ix2 i (0 : Fin 1)) (by
    intro a
    match a with
    | ⟨0, _⟩ => rfl
    | ⟨1, _⟩ => rfl)]
  rw [← par_word i.val (by omega)]
  show Scalar.select (Scalar.cmpi .eq (BitVec.ofNat 32 (0 * 256 + i.val) &&& 1#32) 0#32) _ _ = _
  rw [Nat.zero_mul, Nat.zero_add]
  rfl

/-- The sum down a column of real entries. -/
theorem colsum (X : FVec Ideal S2048x256 .f32) (a : Fin 2048 → ℝ) (j : Fin 256) (hX : ∀ n, X (ix2 n j) = (a n : EReal)) :
    multiReduction .add [0] S256 X 0x00000000#32 reduces_S2048x256_S256 (.inl rfl) rfl (ix1 j) = ((∑ n, a n : ℝ) : EReal) := by
  refine (Ideal.multiReduction_add_single (a := 0) X _ _ _ _ _).trans ?_
  rw [coe_sum]
  refine Finset.sum_congr rfl fun n _ => ?_
  rw [← hX n]
  congr 1
  funext d
  match d with
  | ⟨0, _⟩ => rfl
  | ⟨1, _⟩ => rfl

section
variable (x0 x1 : Vec Ideal S2048x256 .f32) (q k : Fin 2048 → Fin 256 → ℝ)
  (hq : ∀ n j, x0 (ix2 n j) = (q n j : EReal)) (hk : ∀ n j, x1 (ix2 n j) = (k n j : EReal))

theorem half_at (hq : ∀ n j, x0 (ix2 n j) = (q n j : EReal)) (j : Fin 256) :
    multiReduction .add [0] S256 (mulf (shapeCast S2048x256 x0 shapeCasts_S2048x256_S2048x256)
      (broadcastTo S2048x256 (select (cmpi .eq (andi (iota .tc S2048x1 32 [0] iota_S2048x1_d0_w32) (broadcast S2048x1 1#32)) (broadcast S2048x1 0#32))
      (broadcast S2048x1 (Scalar.ofBits (F := Ideal) .f32 0x3F800000#32)) (broadcast S2048x1 (Scalar.ofBits (F := Ideal) .f32 0xBF800000#32)))
      broadcasts_S2048x1_S2048x256)) 0x00000000#32 reduces_S2048x256_S256 (.inl rfl) rfl (ix1 j) = ((CT q 1024 j : ℝ) : EReal) := by
  rw [colsum _ (fun n => q n j * cw 1024 n.val) j (fun n => by
    rw [mulf_apply, par_col, EReal.coe_mul]
    exact congrArg (· * _) ((id_big (e := .f32) x0 _).trans (hq n j)))]
  unfold CT
  congr 1
  exact Finset.sum_congr rfl fun n _ => mul_comm _ _

include hq hk

theorem pay69_at (i : Fin 1) (j : Fin 256) : k0_pay69 (F := Ideal) x0 x1 (ix2 i j) = ((CT q 1024 j * CT k 1024 j : ℝ) : EReal) := by
  unfold k0_pay69
  rw [mulf_apply]
  rw [shapeCast_a_1a_apply _ shapeCasts_S256_S1x256, shapeCast_a_1a_apply _ shapeCasts_S256_S1x256,
    EReal.coe_mul]
  exact congrArg₂ (· * ·) (half_at x0 q hq j) (half_at x1 k hk j)

/-- The correlation as the kernel sums it. -/
def KC (n : ℕ) (j : Fin 256) : ℝ :=
  (∑ f : Fin 1024, cw f.val n * RE q k f.val j - ∑ f : Fin 1024, sw f.val n * IM q k f.val j) * (1 / 1024)
    + (cw 1024 n * (CT q 1024 j * CT k 1024 j) - RE q k 0 j) * (1 / 2048)

theorem co13_at (b : Fin k0_t2_loop.trips) (i j : Fin 256) :
    co13 (F := Ideal) (k0_pay69 x0 x1) (k0_pay79 (row0 (R9 x0 x1 Tb5 Tb6 Tb7 Tb8)) (row0 (R10 x0 x1 Tb5 Tb6 Tb7 Tb8))) k0_pay80 Tb5 Tb6 Tb7 Tb8
      (R9 x0 x1 Tb5 Tb6 Tb7 Tb8) (R10 x0 x1 Tb5 Tb6 Tb7 Tb8) (R11 x0 x1 Tb5 Tb6 Tb7 Tb8) (R12 x0 x1 Tb5 Tb6 Tb7 Tb8) b (ix2 i j)
      = ((KC q k (256 * b.val + i.val) j : ℝ) : EReal) := by
  have hb : b.val < 8 := lt_of_lt_of_eq b.isLt trips2
  have hn : ∀ i : Fin 256, 256 * b.val + i.val < 2048 := fun i => by omega
  have c5 : ∀ f i, colsOf (F := Ideal) Tb5 b (ix2 f i) = ((cw f.val (256 * b.val + i.val) : ℝ) : EReal) := fun f i => by rw [colsOf_at _ _ _ _ (hn i), Tb5_at]
  have c7 : ∀ f i, colsOf (F := Ideal) Tb7 b (ix2 f i) = ((sw f.val (256 * b.val + i.val) : ℝ) : EReal) := fun f i => by rw [colsOf_at _ _ _ _ (hn i), Tb7_at]
  have c6 : ∀ f i, colsOf (F := Ideal) Tb6 b (ix2 f i) = ((0 : ℝ) : EReal) := fun f i => by rw [colsOf_at _ _ _ _ (hn i), Tb6_at]
  have c8 : ∀ f i, colsOf (F := Ideal) Tb8 b (ix2 f i) = ((0 : ℝ) : EReal) := fun f i => by rw [colsOf_at _ _ _ _ (hn i), Tb8_at]
  have r9 := R9_at x0 x1 q k hq hk
  have r10 := R10_at x0 x1 q k hq hk
  have r11 := R11_at x0 x1 q k hq hk
  have r12 := R12_at x0 x1 q k hq hk
  have m1 := mmB (colsOf (F := Ideal) Tb5 b) (R9 x0 x1 Tb5 Tb6 Tb7 Tb8) _ _ c5 r9 i j
  have m2 := mmB (colsOf (F := Ideal) Tb5 b) (R10 x0 x1 Tb5 Tb6 Tb7 Tb8) _ (fun _ _ => 0) c5 r10 i j
  have m3 := mmB (colsOf (F := Ideal) Tb6 b) (R9 x0 x1 Tb5 Tb6 Tb7 Tb8) (fun _ _ => 0) _ c6 r9 i j
  have m4 := mmB (colsOf (F := Ideal) Tb7 b) (R11 x0 x1 Tb5 Tb6 Tb7 Tb8) _ _ c7 r11 i j
  have m5 := mmB (colsOf (F := Ideal) Tb7 b) (R12 x0 x1 Tb5 Tb6 Tb7 Tb8) _ (fun _ _ => 0) c7 r12 i j
  have m6 := mmB (colsOf (F := Ideal) Tb8 b) (R11 x0 x1 Tb5 Tb6 Tb7 Tb8) (fun _ _ => 0) _ c8 r11 i j
  have p1 := pay81_at i j
  have p2 : broadcastTo S256x256 (k0_pay69 (F := Ideal) x0 x1) broadcasts_S1x256_S256x256 (ix2 i j) = ((CT q 1024 j * CT k 1024 j : ℝ) : EReal) :=
    (broadcastTo_1b_ab_apply _ _ _ _).trans (pay69_at x0 x1 q k hq hk 0 j)
  have p3 : broadcastTo S256x256 (k0_pay79 (F := Ideal) (row0 (R9 x0 x1 Tb5 Tb6 Tb7 Tb8)) (row0 (R10 x0 x1 Tb5 Tb6 Tb7 Tb8))) broadcasts_S1x256_S256x256 (ix2 i j)
      = ((RE q k 0 j : ℝ) : EReal) := by
    refine (broadcastTo_1b_ab_apply _ _ _ _).trans ?_
    show row0 (R9 x0 x1 Tb5 Tb6 Tb7 Tb8) (ix2 0 j) + row0 (R10 x0 x1 Tb5 Tb6 Tb7 Tb8) (ix2 0 j) = _
    rw [row0_at, row0_at, r9, r10, ← EReal.coe_add, add_zero]
    rfl
  unfold co13 k0_pay82
  rw [shapeCast_apply _ shapeCasts_S256x256_S256x256 (ix2 i j) (ix2 i j) rfl]
  refine (congrArg₂ (· + ·) (congrArg₂ (· * ·) (congrArg₂ (· - ·) (congrArg₂ (· + ·) (congrArg₂ (· + ·) m1 m2) m3) (congrArg₂ (· + ·) (congrArg₂ (· + ·) m4 m5) m6)) word_inv_1024)
    (congrArg₂ (· * ·) (congrArg₂ (· - ·) (congrArg₂ (· * ·) p1 p2) p3) word_inv_2048)).trans ?_
  show (_ + _ + _ - (_ + _ + _)) * _ + (_ * _ - _) * _ = _
  simp only [← EReal.coe_add, ← EReal.coe_sub, ← EReal.coe_mul]
  congr 1
  have e : cw 1024 (256 * b.val + i.val) = cw 1024 i.val := by
    rw [cw_half, cw_half, pow_add, pow_mul]; norm_num
  unfold KC
  rw [e]
  simp

theorem C13_at (n : Fin 2048) (j : Fin 256) :
    C13 (F := Ideal) (k0_pay69 x0 x1) (k0_pay79 (row0 (R9 x0 x1 Tb5 Tb6 Tb7 Tb8)) (row0 (R10 x0 x1 Tb5 Tb6 Tb7 Tb8))) k0_pay80 Tb5 Tb6 Tb7 Tb8
      (R9 x0 x1 Tb5 Tb6 Tb7 Tb8) (R10 x0 x1 Tb5 Tb6 Tb7 Tb8) (R11 x0 x1 Tb5 Tb6 Tb7 Tb8) (R12 x0 x1 Tb5 Tb6 Tb7 Tb8) (ix2 n j)
      = ((KC q k n.val j : ℝ) : EReal) := by
  refine (stk_at (e := .f32) _ _ n j).trans ((co13_at x0 x1 q k hq hk _ _ _).trans ?_)
  rw [Nat.div_add_mod]

end

/-- How many of the 2048 frequencies frequency `f` of the half spectrum stands for. -/
def mu (f : ℕ) : ℝ := if f = 0 ∨ f = 1024 then 1 else 2

/-- The half spectrum summed with its multiplicities, against the same sum with the two ends set right afterwards. -/
theorem half_sum (g : ℕ → ℝ) : ∑ f : Fin 1025, mu f.val * g f.val = 2 * (∑ f : Fin 1024, g f.val) - g 0 + g 1024 := by
  rw [Fin.sum_univ_castSucc, Fin.sum_univ_succ (n := 1023), Fin.sum_univ_succ (n := 1023)]
  have e : ∀ i : Fin 1023, mu (i.succ.castSucc : Fin 1025).val * g (i.succ.castSucc : Fin 1025).val = 2 * g (i.succ : Fin 1024).val := by
    intro i
    have h1 : (i.succ.castSucc : Fin 1025).val = i.val + 1 := rfl
    have h2 : (i.succ : Fin 1024).val = i.val + 1 := rfl
    rw [h1, h2, mu, if_neg (by omega)]
  rw [Finset.sum_congr rfl fun i _ => e i, ← Finset.mul_sum]
  have z0 : ((0 : Fin 1024).castSucc : Fin 1025).val = 0 := rfl
  have z1 : ((0 : Fin 1024)).val = 0 := rfl
  have z2 : (Fin.last 1024).val = 1024 := rfl
  rw [z0, z1, z2]
  simp only [mu]
  norm_num
  ring

theorem ST_half (q : Fin 2048 → Fin 256 → ℝ) (j : Fin 256) : ST q 1024 j = 0 := by
  unfold ST; simp [sw_half]

/-- The correlation as the plain formula sums it. -/
theorem KC_eq (q k : Fin 2048 → Fin 256 → ℝ) (n : ℕ) (j : Fin 256) :
    KC q k n j = (∑ f : Fin 1025, mu f.val * (RE q k f.val j * cw f.val n) - ∑ f : Fin 1025, mu f.val * (IM q k f.val j * sw f.val n)) / 2048 := by
  rw [half_sum (fun f => RE q k f j * cw f n), half_sum (fun f => IM q k f j * sw f n), cw_zero, sw_zero, sw_half]
  unfold KC
  have h : RE q k 1024 j = CT q 1024 j * CT k 1024 j := by unfold RE; rw [ST_half, ST_half]; ring
  rw [h, Finset.sum_congr rfl fun (f : Fin 1024) _ => mul_comm (cw f.val n) (RE q k f.val j),
    Finset.sum_congr rfl fun (f : Fin 1024) _ => mul_comm (sw f.val n) (IM q k f.val j)]
  ring

end Cert.KernelIdeal.Gen

end
-- ==== Proof.Val.Soft.lean ====
/- The kernel's weights of a block of real scores, sorted. -/
module

public import proofs.«01_k».proof.Proof.Val.Column
public import proofs.«01_k».proof.Proof.Val.Net
public import proofs.«01_k».proof.Proof.Val.Corr

@[expose] public section

set_option maxRecDepth 16384

noncomputable section

namespace Cert.KernelIdeal.Gen

open Idealize.ShloMosaic Idealize.ShloMosaic.TcCoe
open Idealize.ShloMosaic.ValueIdx
open Cert.Column

section
variable (X : FVec Ideal S2048x256 .f32) (x : Fin 2048 → Fin 256 → ℝ) (hX : ∀ n j, X (ix2 n j) = (x n j : EReal))
include hX

/-- The largest score of a column. -/
theorem colmax_at (j : Fin 256) :
    multiReduction (F := Ideal) .maximumf [0] S256 X 0xFF800000#32 reduces_S2048x256_S256 (.inl rfl) rfl (ix1 j)
      = ((top (fun n => x n j) : ℝ) : EReal) := by
  refine (Ideal.multiReduction_maximumf_single (a := 0) X _ _ _ _ _).trans ?_
  have e : (FloatOps.ofBits (F := Ideal) .f32 0xFF800000#32) = ⊥ := word_bot
  rw [e]
  refine fold_top (fun n => x n j) _ fun n => ?_
  have e1 : reduces_S2048x256_S256.lift (ix1 j) n = ix2 n j := by
    funext d; match d with | ⟨0, _⟩ => rfl | ⟨1, _⟩ => rfl
  show X (reduces_S2048x256_S256.lift (ix1 j) n) = _
  rw [e1]
  exact hX n j

omit hX in
/-- A row of 256 numbers repeated over the 2048 rows. -/
theorem spr_at (v : FVec Ideal S256 .f32) (n : Fin 2048) (j : Fin 256) :
    broadcastTo S2048x256 (shapeCast S1x256 v shapeCasts_S256_S1x256) broadcasts_S1x256_S2048x256 (ix2 n j) = v (ix1 j) := by
  rw [broadcastTo_1b_ab_apply, shapeCast_a_1a_apply]

/-- The exponentials. -/
theorem kexpo_at (n : Fin 2048) (j : Fin 256) :
    exp (F := Ideal) (subf X (broadcastTo S2048x256 (shapeCast S1x256 (multiReduction (F := Ideal) .maximumf [0] S256 X 0xFF800000#32 reduces_S2048x256_S256 (.inl rfl) rfl) shapeCasts_S256_S1x256) broadcasts_S1x256_S2048x256)) (ix2 n j)
      = Ideal.exp (((x n j : ℝ) : EReal) - ((top (fun n => x n j) : ℝ) : EReal)) := by
  show Ideal.exp (X (ix2 n j) - broadcastTo S2048x256 _ _ (ix2 n j)) = _
  refine congrArg Ideal.exp (congrArg₂ (· - ·) (hX n j) ?_)
  exact (spr_at _ n j).trans (colmax_at X x hX j)

omit hX in
/-- Their column sums. -/
theorem kmass_at (E : FVec Ideal S2048x256 .f32)
    (hE : ∀ n j, E (ix2 n j) = Ideal.exp (((x n j : ℝ) : EReal) - ((top (fun n => x n j) : ℝ) : EReal))) (j : Fin 256) :
    multiReduction (F := Ideal) .add [0] S256 E 0x00000000#32 reduces_S2048x256_S256 (.inl rfl) rfl (ix1 j)
      = ((mass (fun n => x n j) : ℝ) : EReal) := by
  refine (Ideal.multiReduction_add_single (a := 0) E _ _ _ _ _).trans ?_
  unfold mass
  rw [coe_sum]
  refine Finset.sum_congr rfl fun n _ => ?_
  have e1 : reduces_S2048x256_S256.lift (ix1 j) n = ix2 n j := by
    funext d; match d with | ⟨0, _⟩ => rfl | ⟨1, _⟩ => rfl
  rw [e1]
  refine (hE n j).trans ?_
  rw [← EReal.coe_sub]
  rfl

/-- The weights before sorting. -/
theorem pay83_at (n : Fin 2048) (j : Fin 256) :
    k0_pay83 (F := Ideal) X (ix2 n j) = ((wt (fun n => x n j) n : ℝ) : EReal) := by
  unfold k0_pay83
  rw [shapeCast_apply _ shapeCasts_S2048x256_S2048x256 (ix2 n j) (ix2 n j) rfl]
  refine Eq.trans ?_ (div_wt (fun n => x n j) n)
  refine congrArg₂ Ideal.div (kexpo_at X x hX n j) ?_
  refine (spr_at _ n j).trans ?_
  exact kmass_at x _ (kexpo_at X x hX) j

/-- The weights after sorting: the weights of any descending rearrangement of the scores. -/
theorem srt_at (g : Fin 2048 → Fin 256 → ℝ) (hg : ∀ j, Antitone fun n => g n j)
    (hπ : ∀ j, ∃ π : Equiv.Perm (Fin 2048), ∀ n, g n j = x (π n) j) (n : Fin 2048) (j : Fin 256) :
    lvls (F := Ideal) (k0_pay83 (F := Ideal) X) 11 (ix2 n j) = ((wt (fun n => g n j) n : ℝ) : EReal) := by
  obtain ⟨h1, σ, h2⟩ := lvls_sorts (k0_pay83 (F := Ideal) X) j
  obtain ⟨π, hp⟩ := hπ j
  exact sorted_wt (fun n => x n j) (fun n => g n j) (colOf (lvls (F := Ideal) (k0_pay83 (F := Ideal) X) 11) j) h1 σ π
    (fun i => (h2 i).trans (pay83_at X x hX (σ i) j)) (hg j) hp n

end

/-- The whole first half on real blocks. -/
theorem srtOf_at (x0 x1 : FVec Ideal S2048x256 .f32) (q k : Fin 2048 → Fin 256 → ℝ)
    (hq : ∀ n j, x0 (ix2 n j) = (q n j : EReal)) (hk : ∀ n j, x1 (ix2 n j) = (k n j : EReal))
    (g : Fin 2048 → Fin 256 → ℝ) (hg : ∀ j, Antitone fun n => g n j)
    (hπ : ∀ j, ∃ π : Equiv.Perm (Fin 2048), ∀ n, g n j = KC q k (π n).val j) (n : Fin 2048) (j : Fin 256) :
    srtOf (F := Ideal) x0 x1 Tb5 Tb6 Tb7 Tb8 (ix2 n j) = ((wt (fun n => g n j) n : ℝ) : EReal) := by
  unfold srtOf srt
  exact srt_at _ (fun n j => KC q k n.val j) (C13_at x0 x1 q k hq hk) g hg hπ n j

/-! ## The last product -/

/-- The product of a 2048 by 64 block and a 64 by 64 block. -/
theorem mmO (A : FVec Ideal S2048x64 .bf16) (B : FVec Ideal S64x64 .bf16) (a : Fin 2048 → Fin 64 → ℝ) (b : Fin 64 → Fin 64 → ℝ)
    (hA : ∀ i n, A (ix2 i n) = (a i n : EReal)) (hB : ∀ n j, B (ix2 n j) = (b n j : EReal)) (i : Fin 2048) (j : Fin 64) :
    matmul dot_S2048x64_S64x64_S2048x64_1_0_0_1_n_n none A B (constant S2048x64 .f32 0x00000000#32) (ix2 i j)
      = ((∑ n, a i n * b n j : ℝ) : EReal) := by
  simp only [matmul]
  rw [Ideal.matmul_constant_zero_apply, coe_sum,
    ← Equiv.sum_comp (contrEquiv1 dot_S2048x64_S64x64_S2048x64_1_0_0_1_n_n 64 rfl rfl).symm]
  refine Finset.sum_congr rfl fun n _ => ?_
  have e1 : dot_S2048x64_S64x64_S2048x64_1_0_0_1_n_n.lhsIdx (ix2 i j) ((contrEquiv1 dot_S2048x64_S64x64_S2048x64_1_0_0_1_n_n 64 rfl rfl).symm n) = ix2 i n := by
    funext d; match d with | ⟨0, _⟩ => rfl | ⟨1, _⟩ => rfl
  have e2 : dot_S2048x64_S64x64_S2048x64_1_0_0_1_n_n.rhsIdx (ix2 i j) ((contrEquiv1 dot_S2048x64_S64x64_S2048x64_1_0_0_1_n_n 64 rfl rfl).symm n) = ix2 n j := by
    funext d; match d with | ⟨0, _⟩ => rfl | ⟨1, _⟩ => rfl
  rw [e1, e2, hA, hB, EReal.coe_mul]

/-- Weights times values, the values split in a leading and a trailing part. -/
theorem mmSplit (A : FVec Ideal S2048x64 .bf16) (B : FVec Ideal S64x64 .f32) (a : Fin 2048 → Fin 64 → ℝ) (b : Fin 64 → Fin 64 → ℝ)
    (hA : ∀ i n, A (ix2 i n) = (a i n : EReal)) (hB : ∀ n j, B (ix2 n j) = (b n j : EReal)) (i : Fin 2048) (j : Fin 64) :
    addf (F := Ideal) (matmul dot_S2048x64_S64x64_S2048x64_1_0_0_1_n_n none A (truncf .bf16 B bitsLt_bf16_f32) (constant S2048x64 .f32 0x00000000#32))
      (matmul dot_S2048x64_S64x64_S2048x64_1_0_0_1_n_n none A (truncf .bf16 (subf B (extf .f32 (truncf .bf16 B bitsLt_bf16_f32) bitsLt_bf16_f32)) bitsLt_bf16_f32) (constant S2048x64 .f32 0x00000000#32)) (ix2 i j)
      = ((∑ n, a i n * b n j : ℝ) : EReal) := by
  refine (congrArg₂ (· + ·) (mmO A _ a b hA hB i j) (mmO A _ a (fun _ _ => 0) hA (fun n j => ?_) i j)).trans ?_
  · exact coe_self (b n j) _ (hB n j)
  · show _ + _ = _
    rw [← EReal.coe_add]; simp

/-- A column block of the weights. -/
theorem wcols (W : FVec Ideal S2048x256 .bf16) (o : Nat) (h : S2048x256.Slices ![0, o] S2048x64) (n : Fin 2048) (d : Fin 64) (ho : o + d.val < 256) :
    extractStridedSlice S2048x64 ![0, o] W h (ix2 n d) = W (ix2 n ⟨o + d.val, ho⟩) := by
  refine extractStridedSlice_apply _ _ _ _ _ fun a => ?_
  match a with
  | ⟨0, _⟩ => exact (Nat.zero_add _).symm
  | ⟨1, _⟩ => rfl

/-- One head's block of the values. -/
theorem vhead (x2 : FVec Ideal S4x64x64 .f32) (o : Nat) (ho : o < 4) (h : S4x64x64.Slices ![o, 0, 0] S1x64x64) (d e : Fin 64) :
    shapeCast S64x64 (extractStridedSlice S1x64x64 ![o, 0, 0] x2 h) shapeCasts_S1x64x64_S64x64 (ix2 d e) = x2 (ix3 ⟨o, ho⟩ d e) := by
  rw [shapeCast_1ab_ab_apply]
  refine extractStridedSlice_apply _ _ _ _ _ fun a => ?_
  match a with
  | ⟨0, _⟩ => rfl
  | ⟨1, _⟩ => exact (Nat.zero_add _).symm
  | ⟨2, _⟩ => exact (Nat.zero_add _).symm

section
variable (W : FVec Ideal S2048x256 .bf16) (x2 : FVec Ideal S4x64x64 .f32) (w : Fin 2048 → Fin 256 → ℝ) (v : Fin 4 → Fin 64 → Fin 64 → ℝ)
  (hW : ∀ n j, W (ix2 n j) = (w n j : EReal)) (hv : ∀ h d e, x2 (ix3 h d e) = (v h d e : EReal))
include hW hv

theorem pay88_at (h : Fin 4) (d e : Fin 64) : k0_pay88 (F := Ideal) x2 (ix3 h d e) = (v h d e : EReal) := by
  unfold k0_pay88
  rw [shapeCast_apply _ shapeCasts_S4x64x64_S4x64x64 (ix3 h d e) (ix3 h d e) rfl, hv]

theorem head0 (n : Fin 2048) (e : Fin 64) : k0_pay89 (F := Ideal) W x2 (ix2 n e)
    = ((∑ d : Fin 64, w n ⟨0 + d.val, by omega⟩ * v 0 d e : ℝ) : EReal) :=
  mmSplit _ _ (fun n d => w n ⟨0 + d.val, by omega⟩) (fun d e => v 0 d e)
    (fun n d => (wcols W 0 _ n d (by omega)).trans (hW _ _))
    (fun d e => (vhead _ 0 (by omega) _ d e).trans (pay88_at W x2 w v hW hv 0 d e)) n e

theorem head1 (n : Fin 2048) (e : Fin 64) : k0_pay1 (F := Ideal) W (k0_pay88 (F := Ideal) x2) (ix2 n e)
    = ((∑ d : Fin 64, w n ⟨64 + d.val, by omega⟩ * v 1 d e : ℝ) : EReal) :=
  mmSplit _ _ (fun n d => w n ⟨64 + d.val, by omega⟩) (fun d e => v 1 d e)
    (fun n d => (wcols W 64 _ n d (by omega)).trans (hW _ _))
    (fun d e => (vhead _ 1 (by omega) _ d e).trans (pay88_at W x2 w v hW hv 1 d e)) n e

theorem head2 (n : Fin 2048) (e : Fin 64) : k0_pay2 (F := Ideal) W (k0_pay88 (F := Ideal) x2) (ix2 n e)
    = ((∑ d : Fin 64, w n ⟨128 + d.val, by omega⟩ * v 2 d e : ℝ) : EReal) :=
  mmSplit _ _ (fun n d => w n ⟨128 + d.val, by omega⟩) (fun d e => v 2 d e)
    (fun n d => (wcols W 128 _ n d (by omega)).trans (hW _ _))
    (fun d e => (vhead _ 2 (by omega) _ d e).trans (pay88_at W x2 w v hW hv 2 d e)) n e

theorem head3 (n : Fin 2048) (e : Fin 64) : k0_pay3 (F := Ideal) W (k0_pay88 (F := Ideal) x2) (ix2 n e)
    = ((∑ d : Fin 64, w n ⟨192 + d.val, by omega⟩ * v 3 d e : ℝ) : EReal) :=
  mmSplit _ _ (fun n d => w n ⟨192 + d.val, by omega⟩) (fun d e => v 3 d e)
    (fun n d => (wcols W 192 _ n d (by omega)).trans (hW _ _))
    (fun d e => (vhead _ 3 (by omega) _ d e).trans (pay88_at W x2 w v hW hv 3 d e)) n e

/-- The result block. -/
theorem outOf_at (n : Fin 2048) (h : Fin 4) (e : Fin 64) :
    outOf (F := Ideal) W x2 (ix2 n ⟨64 * h.val + e.val, by omega⟩)
      = ((∑ d : Fin 64, w n ⟨64 * h.val + d.val, by omega⟩ * v h d e : ℝ) : EReal) := by
  have key := cols_at (F := Ideal) ![k0_pay89 (F := Ideal) W x2, k0_pay1 (F := Ideal) W (k0_pay88 (F := Ideal) x2), k0_pay2 (F := Ideal) W (k0_pay88 (F := Ideal) x2), k0_pay3 (F := Ideal) W (k0_pay88 (F := Ideal) x2)] h
    (ix2 n ⟨64 * h.val + e.val, by omega⟩) (ix2 n e) (fun a => by
      match a with
      | ⟨0, _⟩ => exact (Nat.zero_add _).symm
      | ⟨1, _⟩ => rfl) _ rfl
  refine key.symm.trans ?_
  match h with
  | ⟨0, _⟩ => exact head0 W x2 w v hW hv n e
  | ⟨1, _⟩ => exact head1 W x2 w v hW hv n e
  | ⟨2, _⟩ => exact head2 W x2 w v hW hv n e
  | ⟨3, _⟩ => exact head3 W x2 w v hW hv n e

end

end Cert.KernelIdeal.Gen

end
-- ==== Proof.Val.Place.lean ====
/- Where the entries of the arguments and of the result lie: the operations before and after the kernel, and its blocks. -/
module

public import proofs.«01_k».proof.Proof.KI.Run
public import proofs.«01_k».proof.Proof.Val.Soft
public import Idealize.ShloMosaic.PureOps.Ideal.Laws
public import Idealize.ShloMosaic.Lib.Pipeline.Value
public import Idealize.ShloMosaic.Lib.StableHlo.Run

@[expose] public section

set_option maxRecDepth 16384

noncomputable section

namespace Cert.KernelIdeal.Gen

open Idealize.ShloMosaic Idealize.ShloMosaic.TcCoe Idealize.ShloMosaic.Tactic
open Idealize.ShloMosaic.ValueIdx
open Idealize.ShloMosaic.Pipeline (Dat Cfg Window)

/-- The heads laid side by side, one column each feature. -/
def pack (A : FVec Ideal S1x12x2048x64 .f32) : FVec Ideal S2048x768 .f32 :=
  shapeCast S2048x768 (transpose S2048x12x64 [1, 0, 2] (shapeCast S12x2048x64 A shapeCasts_S1x12x2048x64_S12x2048x64)
    transposes_S12x2048x64_S2048x12x64_1_0_2) shapeCasts_S2048x12x64_S2048x768

/-- The values of the first rows, the leading axis dropped. -/
def head (A : FVec Ideal S1x12x2048x64 .f32) : FVec Ideal S12x64x64 .f32 :=
  shapeCast S12x64x64 (extractStridedSlice S1x12x64x64 ![0, 0, 0, 0] A slices_S1x12x2048x64_S1x12x64x64_0_0_0_0)
    shapeCasts_S1x12x64x64_S12x64x64

/-- The columns taken apart into heads again. -/
def unpack (R : FVec Ideal S2048x768 .f32) : FVec Ideal S1x12x2048x64 .f32 :=
  broadcastInDim S1x12x2048x64 ![1, 2, 3] bcast_S12x2048x64_S1x12x2048x64_1_2_3
    (transpose S12x2048x64 [1, 0, 2] (shapeCast S2048x12x64 R shapeCasts_S2048x768_S2048x12x64)
      transposes_S2048x12x64_S12x2048x64_1_0_2)

theorem pack_at (A : FVec Ideal S1x12x2048x64 .f32) (h : Fin 12) (n : Fin 2048) (d : Fin 64) (y : Fin 768) (hy : y.val = 64 * h.val + d.val) :
    pack A (ix2 n y) = A (ix4 (0 : Fin 1) h n d) := by
  unfold pack
  rw [shapeCast_apply _ _ (ix2 n y) (ix3 n h d) (by
      rw [Shape.rowMajor_val_three, Shape.rowMajor_val_two]
      show (n.val * 12 + h.val) * 64 + d.val = n.val * 768 + y.val
      omega),
    transpose_apply _ _ _ (ix3 n h d) (ix3 h n d) (by
      intro b; match b with | ⟨0, _⟩ => rfl | ⟨1, _⟩ => rfl | ⟨2, _⟩ => rfl),
    shapeCast_apply _ _ (ix3 h n d) (ix4 (0 : Fin 1) h n d) (by
      rw [Shape.rowMajor_val_four, Shape.rowMajor_val_three]
      show ((0 * 12 + h.val) * 2048 + n.val) * 64 + d.val = (h.val * 2048 + n.val) * 64 + d.val
      omega)]

theorem head_at (A : FVec Ideal S1x12x2048x64 .f32) (h : Fin 12) (d e : Fin 64) :
    head A (ix3 h d e) = A (ix4 (0 : Fin 1) h (⟨d.val, Nat.lt_of_lt_of_le d.isLt (by decide)⟩ : Fin 2048) e) := by
  unfold head
  rw [shapeCast_apply _ _ (ix3 h d e) (ix4 (0 : Fin 1) h d e) (by
      rw [Shape.rowMajor_val_four, Shape.rowMajor_val_three]
      show ((0 * 12 + h.val) * 64 + d.val) * 64 + e.val = (h.val * 64 + d.val) * 64 + e.val
      omega)]
  exact extractStridedSlice_apply _ A _ _ (ix4 (0 : Fin 1) h (⟨d.val, Nat.lt_of_lt_of_le d.isLt (by decide)⟩ : Fin 2048) e) (by
        intro b
        match b with
        | ⟨0, _⟩ => rfl
        | ⟨1, _⟩ => exact (Nat.zero_add _).symm
        | ⟨2, _⟩ => exact (Nat.zero_add _).symm
        | ⟨3, _⟩ => exact (Nat.zero_add _).symm)

theorem unpack_at (R : FVec Ideal S2048x768 .f32) (h : Fin 12) (n : Fin 2048) (d : Fin 64) (y : Fin 768) (hy : y.val = 64 * h.val + d.val) :
    unpack R (ix4 (0 : Fin 1) h n d) = R (ix2 n y) := by
  unfold unpack
  rw [broadcastInDim_apply _ _ _ (ix4 (0 : Fin 1) h n d) (ix3 h n d) (by
      intro b; match b with | ⟨0, _⟩ => rfl | ⟨1, _⟩ => rfl | ⟨2, _⟩ => rfl),
    transpose_apply _ _ _ (ix3 h n d) (ix3 n h d) (by
      intro b; match b with | ⟨0, _⟩ => rfl | ⟨1, _⟩ => rfl | ⟨2, _⟩ => rfl),
    shapeCast_apply _ _ (ix3 n h d) (ix2 n y) (by
      rw [Shape.rowMajor_val_three, Shape.rowMajor_val_two]
      show n.val * 768 + y.val = (n.val * 12 + h.val) * 64 + d.val
      omega)]

variable (m : (ℓ : Loc nD τ sig) → Buf (Elt Ideal) ℓ)

theorem V_v2 (c : Dev nD) : V m c main_v2 = pack (m ((c : Thread nD τ).loc main_arg0)) := by
  show StableHlo.after (List.flatten [hostOps0]) (fun b => m (c, b)) (Proc.devRef .tc main_v2) = _
  simp only [hostOps0, List.flatten_cons, List.flatten_nil, List.append_nil, List.cons_append, List.nil_append]
  after_results
  rfl

theorem V_v5 (c : Dev nD) : V m c main_v5 = pack (m ((c : Thread nD τ).loc main_arg1)) := by
  show StableHlo.after (List.flatten [hostOps0]) (fun b => m (c, b)) (Proc.devRef .tc main_v5) = _
  simp only [hostOps0, List.flatten_cons, List.flatten_nil, List.append_nil, List.cons_append, List.nil_append]
  after_results
  rfl

theorem V_v7 (c : Dev nD) : V m c main_v7 = head (m ((c : Thread nD τ).loc main_arg2)) := by
  show StableHlo.after (List.flatten [hostOps0]) (fun b => m (c, b)) (Proc.devRef .tc main_v7) = _
  simp only [hostOps0, List.flatten_cons, List.flatten_nil, List.append_nil, List.cons_append, List.nil_append]
  after_results
  rfl

/-- Each window's block at a point of the grid. -/
theorem at0 : ∀ t : Fin cfg0.N, win0_0.index t (0 : Fin 2) = 0 ∧ win0_0.index t (1 : Fin 2) = t.val :=
  (by decide +kernel : ∀ t : Fin grid0.N, _)
theorem at1 : ∀ t : Fin cfg0.N, win0_1.index t (0 : Fin 2) = 0 ∧ win0_1.index t (1 : Fin 2) = t.val :=
  (by decide +kernel : ∀ t : Fin grid0.N, _)
theorem at2 : ∀ t : Fin cfg0.N, win0_2.index t (0 : Fin 3) = t.val ∧ win0_2.index t (1 : Fin 3) = 0 ∧ win0_2.index t (2 : Fin 3) = 0 :=
  (by decide +kernel : ∀ t : Fin grid0.N, _)
theorem at3 : ∀ t : Fin cfg0.N, win0_3.index t (0 : Fin 2) = 0 ∧ win0_3.index t (1 : Fin 2) = t.val :=
  (by decide +kernel : ∀ t : Fin grid0.N, _)

theorem three (t : Fin cfg0.N) : t.val < 3 := Nat.lt_of_lt_of_eq t.isLt N_0

/-- The array's column of a block's column. -/
def acol (t : Fin cfg0.N) (j : Fin 256) : Fin 768 := ⟨256 * t.val + j.val, by have := three t; omega⟩
/-- The head of a block's head. -/
def ahead (t : Fin cfg0.N) (h : Fin 4) : Fin 12 := ⟨4 * t.val + h.val, by have := three t; omega⟩

theorem emb0 (t : Fin cfg0.N) (n : Fin 2048) (j : Fin 256) : ((cfg0.win 0).blk t).view.emb (ix2 n j) = ix2 n (acol t j) := by
  obtain ⟨e0, e1⟩ := at0 t
  funext a; apply Fin.ext
  match a with
  | ⟨0, _⟩ => show win0_0.index t (0 : Fin 2) * 2048 + 1 * n.val = n.val; omega
  | ⟨1, _⟩ => show win0_0.index t (1 : Fin 2) * 256 + 1 * j.val = 256 * t.val + j.val; omega

theorem emb1 (t : Fin cfg0.N) (n : Fin 2048) (j : Fin 256) : ((cfg0.win 1).blk t).view.emb (ix2 n j) = ix2 n (acol t j) := by
  obtain ⟨e0, e1⟩ := at1 t
  funext a; apply Fin.ext
  match a with
  | ⟨0, _⟩ => show win0_1.index t (0 : Fin 2) * 2048 + 1 * n.val = n.val; omega
  | ⟨1, _⟩ => show win0_1.index t (1 : Fin 2) * 256 + 1 * j.val = 256 * t.val + j.val; omega

theorem emb2 (t : Fin cfg0.N) (h : Fin 4) (d e : Fin 64) : ((cfg0.win 2).blk t).view.emb (ix3 h d e) = ix3 (ahead t h) d e := by
  obtain ⟨e0, e1, e2⟩ := at2 t
  funext a; apply Fin.ext
  match a with
  | ⟨0, _⟩ => show win0_2.index t (0 : Fin 3) * 4 + 1 * h.val = 4 * t.val + h.val; omega
  | ⟨1, _⟩ => show win0_2.index t (1 : Fin 3) * 64 + 1 * d.val = d.val; omega
  | ⟨2, _⟩ => show win0_2.index t (2 : Fin 3) * 64 + 1 * e.val = e.val; omega

theorem emb3 (t : Fin cfg0.N) (n : Fin 2048) (j : Fin 256) : ((cfg0.win 3).blk t).view.emb (ix2 n j) = ix2 n (acol t j) := by
  obtain ⟨e0, e1⟩ := at3 t
  funext a; apply Fin.ext
  match a with
  | ⟨0, _⟩ => show win0_3.index t (0 : Fin 2) * 2048 + 1 * n.val = n.val; omega
  | ⟨1, _⟩ => show win0_3.index t (1 : Fin 2) * 256 + 1 * j.val = 256 * t.val + j.val; omega

theorem blk0_at (c : Dev nD) (t : Fin cfg0.N) (n : Fin 2048) (j : Fin 256) :
    iblk m c 0 t (ix2 n j) = pack (m ((c : Thread nD τ).loc main_arg0)) (ix2 n (acol t j)) := by
  show V m c main_v2 (((cfg0.win 0).blk t).view.emb (ix2 n j)) = _
  rw [emb0, V_v2]

theorem blk1_at (c : Dev nD) (t : Fin cfg0.N) (n : Fin 2048) (j : Fin 256) :
    iblk m c 1 t (ix2 n j) = pack (m ((c : Thread nD τ).loc main_arg1)) (ix2 n (acol t j)) := by
  show V m c main_v5 (((cfg0.win 1).blk t).view.emb (ix2 n j)) = _
  rw [emb1, V_v5]

theorem blk2_at (c : Dev nD) (t : Fin cfg0.N) (h : Fin 4) (d e : Fin 64) :
    iblk m c 2 t (ix3 h d e) = head (m ((c : Thread nD τ).loc main_arg2)) (ix3 (ahead t h) d e) := by
  show V m c main_v7 (((cfg0.win 2).blk t).view.emb (ix3 h d e)) = _
  rw [emb2, V_v7]

/-- The grid point that writes a column, and the column within its block. -/
def pt (y : Fin 768) : Fin cfg0.N := ⟨y.val / 256, by show y.val / 256 < grid0.N; rw [N_0]; omega⟩
def bcol (y : Fin 768) : Fin 256 := ⟨y.val % 256, Nat.mod_lt _ (by decide)⟩

theorem acol_pt (y : Fin 768) : acol (pt y) (bcol y) = y := Fin.ext (by show 256 * (y.val / 256) + y.val % 256 = y.val; omega)

/-- The kernel's whole result. -/
def res (c : Dev nD) : Vec Ideal S2048x768 .f32 := fun i => outAt m c (pt (i 1)) (ix2 (i 0) (bcol (i 1)))

theorem flushed3 (c : Dev nD) (t : Fin cfg0.N) :
    (dats m 0 c).flushed 3 t = ((cfg0.win 3).blk t).view.read (Elt Ideal) (res m c) := by
  show (cfg0.win 3).cut (grid0.coords t) ((dats m 0 c).after 3 t) = _
  rw [after_3]
  funext i
  obtain ⟨n, j, rfl⟩ : ∃ (n : Fin 2048) (j : Fin 256), i = ix2 n j := ⟨i 0, i 1, eq_ix2 i⟩
  show outAt m c t (ix2 n j) = res m c (((cfg0.win 3).blk t).view.emb (ix2 n j))
  rw [emb3]
  have ht := three t
  have e1 : pt (acol t j) = t := Fin.ext (by show (256 * t.val + j.val) / 256 = t.val; omega)
  have e2 : bcol (acol t j) = j := Fin.ext (by show (256 * t.val + j.val) % 256 = j.val; omega)
  show _ = outAt m c (pt (acol t j)) (ix2 n (bcol (acol t j)))
  rw [e1, e2]

theorem covered3 (i : S2048x768.Idx) : ∃ t : Fin cfg0.N, (cfg0.win 3).flush t = true ∧ i ∈ ((cfg0.win 3).blk t).view.set := by
  obtain ⟨n, y, rfl⟩ : ∃ (n : Fin 2048) (y : Fin 768), i = ix2 n y := ⟨i 0, i 1, eq_ix2 i⟩
  refine ⟨pt y, flush0_3 _, ?_⟩
  have h := ((cfg0.win 3).blk (pt y)).view.emb_mem_set (ix2 n (bcol y))
  rwa [emb3, acol_pt] at h

/-- The result array after the run. -/
theorem final3 (c : Dev nD) : (dats m 0 c).arrAt 3 cfg0.N = res m c :=
  (dats m 0 c).arrAt_eq_of_cover 3 (res m c) (fun t _ => flushed3 m c t) covered3

/-- The value the launch leaves as its result. -/
theorem tail_eq (c : Dev nD) : Pipeline.afterTail₀ cfgs (dats m) 0 (V0 m) [hostOps1] c main_v11 = unpack (res m c) := by
  unfold Pipeline.afterTail₀
  simp only [hostOps1, List.flatten_cons, List.flatten_nil, List.append_nil, List.cons_append, List.nil_append]
  after_results
  have e := Pipeline.withArrays_arr spec0 winFacts0.arr_inj c (V0 m c) (fun w => (dats m 0 c).arrAt w cfg0.N) 3
  rw [final3] at e
  exact congrArg unpack e

end Cert.KernelIdeal.Gen

end
-- ==== Proof.Val.RefDefs.lean ====
module

public import proofs.«01_k».proof.Proof.Gen.ReferenceIdeal.Run
public import Idealize.ShloMosaic.PureOps.Ideal.Laws

@[expose] public section

set_option maxRecDepth 16384

noncomputable section

namespace Cert.ReferenceIdeal.Plain

open Cert.ReferenceIdeal Cert.ReferenceIdeal.Gen Idealize.ShloMosaic Idealize.ShloMosaic.TcCoe

/-- The type of the three arguments' contents. -/
abbrev Arg : Type := FVec Ideal S1x12x2048x64 .f32

/-- The angle `2π · f · n / 2048` of frequency `f` at position `n`. -/
def ang : FVec Ideal S1025x2048 .f32 :=
  mulf (sitofp .f32 (muli (iotaInDim S1025x2048 32 0) (iotaInDim S1025x2048 32 1)))
    (broadcastInDim S1025x2048 ![] bcast_S_S1025x2048
      (Host.divf (mulf (constant S_ .f32 0x40000000#32) (Host.acos (constant S_ .f32 0xBF800000#32)))
        (constant S_ .f32 0x45000000#32)))

/-- Its cosine and sine. -/
def rcos : FVec Ideal S1025x2048 .f32 := Host.cos ang
def rsin : FVec Ideal S1025x2048 .f32 := Host.sin ang

/-- The moments of an argument against a table, frequency by frequency. -/
def mom (A : Arg) (w : FVec Ideal S1025x2048 .f32) : FVec Ideal S1x12x1025x64 .f32 :=
  transpose S1x12x1025x64 [0, 1, 3, 2]
    (Host.dotGeneral dot_S1x12x2048x64_S1025x2048_S1x12x64x1025_2_1_013_0_n_n none A w)
    transposes_S1x12x64x1025_S1x12x1025x64_0_1_3_2

/-- How often a frequency of the half spectrum is counted, as a column. -/
def mcol : FVec Ideal S1025x1 .f32 :=
  select (ori (cmpi .eq (iotaInDim S1025x1 32 0) (broadcastInDim S1025x1 ![] bcast_S_S1025x1 (constantI S_ 32 0#32)))
      (cmpi .eq (iotaInDim S1025x1 32 0) (broadcastInDim S1025x1 ![] bcast_S_S1025x1 (constantI S_ 32 1024#32))))
    (broadcastInDim S1025x1 ![] bcast_S_S1025x1 (constant S_ .f32 0x3F800000#32))
    (broadcastInDim S1025x1 ![] bcast_S_S1025x1 (constant S_ .f32 0x40000000#32))

def mult : FVec Ideal S1x12x1025x64 .f32 :=
  broadcastInDim S1x12x1025x64 ![0, 1, 2, 3] bcast_S1x1x1025x1_S1x12x1025x64_0_1_2_3
    (broadcastInDim S1x1x1025x1 ![2, 3] bcast_S1025x1_S1x1x1025x1_2_3 mcol)

/-- Real and imaginary part of the product spectrum. -/
def rre (A0 A1 : Arg) : FVec Ideal S1x12x1025x64 .f32 :=
  addf (mulf (mom A0 rcos) (mom A1 rcos)) (mulf (Host.negf (mom A0 rsin)) (Host.negf (mom A1 rsin)))
def rim (A0 A1 : Arg) : FVec Ideal S1x12x1025x64 .f32 :=
  subf (mulf (Host.negf (mom A0 rsin)) (mom A1 rcos)) (mulf (mom A0 rcos) (Host.negf (mom A1 rsin)))

/-- The sum of a spectrum against a table, position by position. -/
def syn (R : FVec Ideal S1x12x1025x64 .f32) (w : FVec Ideal S1025x2048 .f32) : FVec Ideal S1x12x2048x64 .f32 :=
  transpose S1x12x2048x64 [0, 1, 3, 2]
    (Host.dotGeneral dot_S1x12x1025x64_S1025x2048_S1x12x64x2048_2_0_013_1_n_n none (mulf mult R) w)
    transposes_S1x12x64x2048_S1x12x2048x64_0_1_3_2

/-- The circular correlation, with the positions last. -/
def corr (A0 A1 : Arg) : FVec Ideal S1x12x64x2048 .f32 :=
  transpose S1x12x64x2048 [0, 1, 3, 2]
    (Host.divf (subf (syn (rre A0 A1) rcos) (syn (rim A0 A1) rsin))
      (broadcastInDim S1x12x2048x64 ![] bcast_S_S1x12x2048x64 (constant S_ .f32 0x45000000#32)))
    transposes_S1x12x2048x64_S1x12x64x2048_0_1_3_2

/-- The sorted scores and where each came from. -/
def tops (C : FVec Ideal S1x12x64x2048 .f32) : FVec Ideal S1x12x64x2048 .f32 × IVec S1x12x64x2048 32 :=
  Host.topK S1x12x64x2048 3 (FloatOps.cmpfTotal (F := Ideal) .gt) C sliceFits_S1x12x64x2048_S1x12x64x2048
def vals (C : FVec Ideal S1x12x64x2048 .f32) : FVec Ideal S1x12x2048x64 .f32 :=
  transpose S1x12x2048x64 [0, 1, 3, 2] ((tops C).1) transposes_S1x12x64x2048_S1x12x2048x64_0_1_3_2
def inds (C : FVec Ideal S1x12x64x2048 .f32) : IVec S1x12x2048x64 32 :=
  transpose S1x12x2048x64 [0, 1, 3, 2] ((tops C).2) transposes_S1x12x64x2048_S1x12x2048x64_0_1_3_2

/-- One number for each column, repeated over the positions. -/
def spread (v : FVec Ideal S1x12x64 .f32) : FVec Ideal S1x12x2048x64 .f32 :=
  broadcastInDim S1x12x2048x64 ![0, 1, 2, 3] bcast_S1x12x1x64_S1x12x2048x64_0_1_2_3
    (broadcastInDim S1x12x1x64 ![0, 1, 3] bcast_S1x12x64_S1x12x1x64_0_1_3 v)

/-- The largest score of each column. -/
def peak (V : FVec Ideal S1x12x2048x64 .f32) : FVec Ideal S1x12x64 .f32 :=
  maximumf (broadcastInDim S1x12x64 ![] bcast_S_S1x12x64 (constant S_ .f32 0xFF800000#32))
    (Host.reduce FloatOps.maximumf V (constant S_ .f32 0xFF800000#32) reducesTo_S1x12x2048x64_S1x12x64_d2 h_S_)

/-- Exponentials relative to the largest score, and the weights. -/
def expo (V : FVec Ideal S1x12x2048x64 .f32) : FVec Ideal S1x12x2048x64 .f32 :=
  Host.exp (subf V (spread (peak V)))
def soft (V : FVec Ideal S1x12x2048x64 .f32) : FVec Ideal S1x12x2048x64 .f32 :=
  Host.divf (expo V)
    (spread (Host.reduceAdd (expo V) (constant S_ .f32 0x00000000#32) reducesTo_S1x12x2048x64_S1x12x64_d2 h_S_))

/-- The places read, negative ones counted from the end. -/
def plc (J : IVec S1x12x2048x64 32) : IVec S12x2048x64x1 32 :=
  shapeCast _
    (select
      (cmpi .slt (broadcastInDim S1x12x2048x64x1 ![0, 1, 2, 3] bcast_S1x12x2048x64_S1x12x2048x64x1_0_1_2_3 J)
        (broadcastInDim S1x12x2048x64x1 ![] bcast_S_S1x12x2048x64x1 (constantI S_ 32 0#32)))
      (addi (broadcastInDim S1x12x2048x64x1 ![0, 1, 2, 3] bcast_S1x12x2048x64_S1x12x2048x64x1_0_1_2_3 J)
        (broadcastInDim S1x12x2048x64x1 ![] bcast_S_S1x12x2048x64x1 (constantI S_ 32 2048#32)))
      (broadcastInDim S1x12x2048x64x1 ![0, 1, 2, 3] bcast_S1x12x2048x64_S1x12x2048x64x1_0_1_2_3 J))
    shapeCasts_S1x12x2048x64x1_S12x2048x64x1

/-- Which places are inside the array. -/
def okay (P : IVec S12x2048x64x1 32) : IVec S12x2048x64 1 :=
  Host.reduce IntOp.andi
    (andi (cmpi .sge P (broadcastInDim S12x2048x64x1 ![] bcast_S_S12x2048x64x1 (constantI S_ 32 0#32)))
      (cmpi .sle P
        (broadcastInDim S12x2048x64x1 ![0, 1, 2, 3] bcast_S1x1x1x1_S12x2048x64x1_0_1_2_3
          (broadcastInDim S1x1x1x1 ![3] bcast_S1_S1x1x1x1_3 (constantI S1 32 2047#32)))))
    (constantI S_ 1 1#1) reducesTo_S12x2048x64x1_S12x2048x64_d3 h_S_

/-- The first 64 rows of the values, repeated over the positions. -/
def rep (A2 : Arg) : FVec Ideal S1x12x2048x64x64 .f32 :=
  broadcastInDim S1x12x2048x64x64 ![0, 1, 2, 3, 4] bcast_S1x12x1x64x64_S1x12x2048x64x64_0_1_2_3_4
    (broadcastInDim S1x12x1x64x64 ![0, 1, 3, 4] bcast_S1x12x64x64_S1x12x1x64x64_0_1_3_4
      (extractStridedSlice S1x12x64x64 ![0, 0, 0, 0] A2 slices_S1x12x2048x64_S1x12x64x64_0_0_0_0))

/-- The values read at the places. -/
def taken (A2 : Arg) (P : IVec S12x2048x64x1 32) : FVec Ideal S1x12x2048x64x64 .f32 :=
  select (broadcastInDim S1x12x2048x64x64 ![1, 2, 3] bcast_S12x2048x64_S1x12x2048x64x64_1_2_3 (okay P))
    (Host.gather gather_S1x12x2048x64x64_S12x2048x64x1_S1x12x2048x64x64_04_2_13_02_2_3_111164 (rep A2) P)
    (broadcastInDim S1x12x2048x64x64 ![] bcast_S_S1x12x2048x64x64 (constant S_ .f32 0x7FC00000#32))

/-- The weighted sum. -/
def mix (W : FVec Ideal S1x12x2048x64 .f32) (G : FVec Ideal S1x12x2048x64x64 .f32) : FVec Ideal S1x12x2048x64 .f32 :=
  Host.reduceAdd
    (mulf (broadcastInDim S1x12x2048x64x64 ![0, 1, 2, 3, 4] bcast_S1x12x2048x64x1_S1x12x2048x64x64_0_1_2_3_4
        (broadcastInDim S1x12x2048x64x1 ![0, 1, 2, 3] bcast_S1x12x2048x64_S1x12x2048x64x1_0_1_2_3 W)) G)
    (constant S_ .f32 0x00000000#32) reducesTo_S1x12x2048x64x64_S1x12x2048x64_d3 h_S_

/-- The reference's result as a function of its three arguments. -/
def whole (A0 A1 A2 : Arg) : FVec Ideal S1x12x2048x64 .f32 :=
  mix (soft (vals (corr A0 A1))) (taken A2 (plc (inds (corr A0 A1))))

set_option maxHeartbeats 1000000 in
theorem res_eq (m : (ℓ : Loc nD τ sig) → Buf (Elt Ideal) ℓ) (c : Dev nD) :
    Cert.ReferenceIdeal.Value.res_main_v69 (F := Ideal) m c
      = whole (m ((c.tc : Thread nD τ).loc main_arg0)) (m ((c.tc : Thread nD τ).loc main_arg1))
          (m ((c.tc : Thread nD τ).loc main_arg2)) := by
  unfold Cert.ReferenceIdeal.Value.res_main_v69
  rfl

end Cert.ReferenceIdeal.Plain

end
-- ==== Proof.Val.RefCorr.lean ====
/- The reference's correlation, as a real number. -/
module

public import proofs.«01_k».proof.Proof.Val.RefDefs
public import proofs.«01_k».proof.Proof.Val.Corr

@[expose] public section

set_option maxRecDepth 16384

noncomputable section

namespace Cert.ReferenceIdeal.Plain

open Cert.ReferenceIdeal Cert.ReferenceIdeal.Gen Idealize.ShloMosaic Idealize.ShloMosaic.TcCoe
open Idealize.ShloMosaic.ValueIdx
open Cert.KernelIdeal.Gen (wv cw sw coe_sum mu CT ST RE IM KC KC_eq word_one word_two word_neg_one word_2048)

/-- The angle step of the reference. -/
theorem step_at : Ideal.div ((Ideal.ofBits .f32 0x40000000#32) * Ideal.acos (Ideal.ofBits .f32 0xBF800000#32)) (Ideal.ofBits .f32 0x45000000#32)
    = ((Real.pi * 1024⁻¹ : ℝ) : EReal) := by
  rw [word_two, word_neg_one, word_2048, Ideal.div_coe (by norm_num)]
  have e : Ideal.acos ((-1 : ℝ) : EReal) = ((Real.pi : ℝ) : EReal) := by
    show (if (-1 : ℝ) ≤ -1 ∧ (-1 : ℝ) ≤ 1 then ((Real.arccos (-1) : ℝ) : EReal) else ⊥) = _
    rw [if_pos (by norm_num), Real.arccos_neg_one]
  rw [e, ← EReal.coe_mul, ← EReal.coe_mul]
  congr 1
  ring

/-- A word product small enough not to wrap, converted. -/
theorem word_prod (a b : ℕ) (ha : a < 4096) (hb : b < 4096) :
    FloatOps.sitofp (F := Ideal) .f32 (BitVec.ofNat 32 a * BitVec.ofNat 32 b) = (((a * b : ℕ) : ℝ) : EReal) := by
  have hab : a * b < 2 ^ 24 := by nlinarith
  have h : BitVec.ofNat 32 a * BitVec.ofNat 32 b = BitVec.ofNat 32 (a * b) := by
    apply BitVec.eq_of_toNat_eq
    rw [BitVec.toNat_mul, BitVec.toNat_ofNat, BitVec.toNat_ofNat, BitVec.toNat_ofNat,
      Nat.mod_eq_of_lt (show a < 2 ^ 32 by omega), Nat.mod_eq_of_lt (show b < 2 ^ 32 by omega)]
  rw [h]
  show (((BitVec.ofNat 32 (a * b)).toInt : ℝ) : EReal) = _
  have e : (BitVec.ofNat 32 (a * b)).toInt = ((a * b : ℕ) : ℤ) := by
    have t : (BitVec.ofNat 32 (a * b)).toNat = a * b := by
      rw [BitVec.toNat_ofNat, Nat.mod_eq_of_lt (by omega)]
    rw [BitVec.toInt_eq_toNat_of_lt (by rw [t]; omega), t]
  rw [e]
  norm_num

theorem ang_at (f : Fin 1025) (n : Fin 2048) : ang (ix2 f n) = ((wv (f.val * n.val) : ℝ) : EReal) := by
  refine (congrArg₂ (· * ·) (word_prod f.val n.val (by omega) (by omega)) step_at).trans ?_
  show _ * _ = _
  rw [← EReal.coe_mul]
  rfl

theorem rcos_at (f : Fin 1025) (n : Fin 2048) : rcos (ix2 f n) = ((cw f.val n.val : ℝ) : EReal) := by
  show Ideal.cos (ang (ix2 f n)) = _
  rw [ang_at]; rfl

theorem rsin_at (f : Fin 1025) (n : Fin 2048) : rsin (ix2 f n) = ((sw f.val n.val : ℝ) : EReal) := by
  show Ideal.sin (ang (ix2 f n)) = _
  rw [ang_at]; rfl

/-- The moments of a real argument against a real table. -/
theorem mom_at (A : Arg) (w : FVec Ideal S1025x2048 .f32) (a : Fin 12 → Fin 2048 → Fin 64 → ℝ) (u : ℕ → ℕ → ℝ)
    (hA : ∀ h n d, A (ix4 0 h n d) = (a h n d : EReal)) (hw : ∀ f n, w (ix2 f n) = (u f.val n.val : EReal))
    (h : Fin 12) (f : Fin 1025) (d : Fin 64) :
    mom A w (ix4 0 h f d) = ((∑ n : Fin 2048, u f.val n.val * a h n d : ℝ) : EReal) := by
  unfold mom
  rw [transpose_apply _ _ _ (ix4 0 h f d) (ix4 0 h d f) (by
    intro b; match b with | ⟨0, _⟩ => rfl | ⟨1, _⟩ => rfl | ⟨2, _⟩ => rfl | ⟨3, _⟩ => rfl)]
  simp only [Host.dotGeneral]
  rw [Ideal.dotGeneral_apply, coe_sum,
    ← Equiv.sum_comp (contrEquiv1 dot_S1x12x2048x64_S1025x2048_S1x12x64x1025_2_1_013_0_n_n 2048 rfl rfl).symm]
  refine Finset.sum_congr rfl fun n _ => ?_
  have e1 : dot_S1x12x2048x64_S1025x2048_S1x12x64x1025_2_1_013_0_n_n.lhsIdx (ix4 0 h d f) ((contrEquiv1 dot_S1x12x2048x64_S1025x2048_S1x12x64x1025_2_1_013_0_n_n 2048 rfl rfl).symm n) = ix4 0 h n d := by
    funext b; match b with | ⟨0, _⟩ => rfl | ⟨1, _⟩ => rfl | ⟨2, _⟩ => rfl | ⟨3, _⟩ => rfl
  have e2 : dot_S1x12x2048x64_S1025x2048_S1x12x64x1025_2_1_013_0_n_n.rhsIdx (ix4 0 h d f) ((contrEquiv1 dot_S1x12x2048x64_S1025x2048_S1x12x64x1025_2_1_013_0_n_n 2048 rfl rfl).symm n) = ix2 f n := by
    funext b; match b with | ⟨0, _⟩ => rfl | ⟨1, _⟩ => rfl
  rw [e1, e2, hA, hw, ← EReal.coe_mul, mul_comm]

theorem bit_or (a b : BitVec 1) (P Q : Prop) (ha : a = 1#1 ↔ P) (hb : b = 1#1 ↔ Q) : IntOp.ori a b = 1#1 ↔ P ∨ Q := by
  rw [← ha, ← hb]
  clear ha hb
  revert a b; decide

theorem word_eq (a b : ℕ) (ha : a < 4096) (hb : b < 4096) : (IntOp.cmpi .eq (BitVec.ofNat 32 a) (BitVec.ofNat 32 b)) = 1#1 ↔ a = b := by
  have h : (BitVec.ofNat 32 a = BitVec.ofNat 32 b) ↔ a = b := by
    constructor
    · intro e
      have := congrArg BitVec.toNat e
      rw [BitVec.toNat_ofNat, BitVec.toNat_ofNat, Nat.mod_eq_of_lt (by omega), Nat.mod_eq_of_lt (by omega)] at this
      exact this
    · rintro rfl; rfl
  rw [← h]
  show BitVec.ofBool (BitVec.ofNat 32 a == BitVec.ofNat 32 b) = 1#1 ↔ _
  by_cases e : BitVec.ofNat 32 a = BitVec.ofNat 32 b
  · simp [e]
  · rw [beq_false_of_ne e]; simp [e]

theorem mcol_at (f : Fin 1025) : mcol (ix2 f 0) = ((mu f.val : ℝ) : EReal) := by
  have hb : (IntOp.ori (IntOp.cmpi .eq (BitVec.ofNat 32 f.val) (BitVec.ofNat 32 0)) (IntOp.cmpi .eq (BitVec.ofNat 32 f.val) (BitVec.ofNat 32 1024))) = 1#1 ↔ (f.val = 0 ∨ f.val = 1024) :=
    bit_or _ _ _ _ (word_eq _ _ (by omega) (by omega)) (word_eq _ _ (by omega) (by omega))
  refine (Cert.KernelIdeal.Gen.sel_eq _ _ hb _ _).trans ?_
  unfold mu
  by_cases hf : f.val = 0 ∨ f.val = 1024
  · rw [if_pos hf, if_pos hf]; exact word_one
  · rw [if_neg hf, if_neg hf]; exact word_two

theorem mult_at (h : Fin 12) (f : Fin 1025) (d : Fin 64) : mult (ix4 0 h f d) = ((mu f.val : ℝ) : EReal) := by
  unfold mult
  rw [broadcastInDim_apply _ _ _ (ix4 0 h f d) (ix4 (0 : Fin 1) (0 : Fin 1) f (0 : Fin 1)) (by
    intro b; match b with | ⟨0, _⟩ => rfl | ⟨1, _⟩ => rfl | ⟨2, _⟩ => rfl | ⟨3, _⟩ => rfl)]
  rw [broadcastInDim_apply _ _ _ (ix4 (0 : Fin 1) (0 : Fin 1) f (0 : Fin 1)) (ix2 f 0) (by
    intro b; match b with | ⟨0, _⟩ => rfl | ⟨1, _⟩ => rfl)]
  exact mcol_at f

/-- The sum of a real spectrum against a real table. -/
theorem syn_at (R : FVec Ideal S1x12x1025x64 .f32) (w : FVec Ideal S1025x2048 .f32) (r : Fin 12 → ℕ → Fin 64 → ℝ) (u : ℕ → ℕ → ℝ)
    (hR : ∀ h (f : Fin 1025) d, R (ix4 0 h f d) = (r h f.val d : EReal)) (hw : ∀ f n, w (ix2 f n) = (u f.val n.val : EReal))
    (h : Fin 12) (n : Fin 2048) (d : Fin 64) :
    syn R w (ix4 0 h n d) = ((∑ f : Fin 1025, mu f.val * (r h f.val d * u f.val n.val) : ℝ) : EReal) := by
  unfold syn
  rw [transpose_apply _ _ _ (ix4 0 h n d) (ix4 0 h d n) (by
    intro b; match b with | ⟨0, _⟩ => rfl | ⟨1, _⟩ => rfl | ⟨2, _⟩ => rfl | ⟨3, _⟩ => rfl)]
  simp only [Host.dotGeneral]
  rw [Ideal.dotGeneral_apply, coe_sum,
    ← Equiv.sum_comp (contrEquiv1 dot_S1x12x1025x64_S1025x2048_S1x12x64x2048_2_0_013_1_n_n 1025 rfl rfl).symm]
  refine Finset.sum_congr rfl fun f _ => ?_
  have e1 : dot_S1x12x1025x64_S1025x2048_S1x12x64x2048_2_0_013_1_n_n.lhsIdx (ix4 0 h d n) ((contrEquiv1 dot_S1x12x1025x64_S1025x2048_S1x12x64x2048_2_0_013_1_n_n 1025 rfl rfl).symm f) = ix4 0 h f d := by
    funext b; match b with | ⟨0, _⟩ => rfl | ⟨1, _⟩ => rfl | ⟨2, _⟩ => rfl | ⟨3, _⟩ => rfl
  have e2 : dot_S1x12x1025x64_S1025x2048_S1x12x64x2048_2_0_013_1_n_n.rhsIdx (ix4 0 h d n) ((contrEquiv1 dot_S1x12x1025x64_S1025x2048_S1x12x64x2048_2_0_013_1_n_n 1025 rfl rfl).symm f) = ix2 f n := by
    funext b; match b with | ⟨0, _⟩ => rfl | ⟨1, _⟩ => rfl
  rw [e1, e2, hw]
  show (mult (ix4 0 h f d) * R (ix4 0 h f d)) * _ = _
  rw [mult_at, hR, ← EReal.coe_mul, ← EReal.coe_mul, mul_assoc]

/-- The correlation of two columns at a lag, as the plain formula sums it. -/
def lag (a b : Fin 2048 → ℝ) (n : Fin 2048) : ℝ := KC (fun n _ => a n) (fun n _ => b n) n.val 0

section
variable (A0 A1 : Arg) (a b : Fin 12 → Fin 2048 → Fin 64 → ℝ)
  (hA : ∀ h n d, A0 (ix4 0 h n d) = (a h n d : EReal)) (hB : ∀ h n d, A1 (ix4 0 h n d) = (b h n d : EReal))
include hA hB

theorem rre_at (h : Fin 12) (f : Fin 1025) (d : Fin 64) :
    rre A0 A1 (ix4 0 h f d) = ((RE (fun n _ => a h n d) (fun n _ => b h n d) f.val 0 : ℝ) : EReal) := by
  refine (congrArg₂ (· + ·) (congrArg₂ (· * ·) (mom_at A0 rcos a cw hA rcos_at h f d) (mom_at A1 rcos b cw hB rcos_at h f d))
    (congrArg₂ (· * ·) (congrArg Neg.neg (mom_at A0 rsin a sw hA rsin_at h f d)) (congrArg Neg.neg (mom_at A1 rsin b sw hB rsin_at h f d)))).trans ?_
  show _ * _ + _ * _ = _
  rw [← EReal.coe_neg, ← EReal.coe_neg, ← EReal.coe_mul, ← EReal.coe_mul, ← EReal.coe_add, neg_mul_neg]
  rfl

theorem rim_at (h : Fin 12) (f : Fin 1025) (d : Fin 64) :
    rim A0 A1 (ix4 0 h f d) = ((IM (fun n _ => a h n d) (fun n _ => b h n d) f.val 0 : ℝ) : EReal) := by
  refine (congrArg₂ (· - ·) (congrArg₂ (· * ·) (congrArg Neg.neg (mom_at A0 rsin a sw hA rsin_at h f d)) (mom_at A1 rcos b cw hB rcos_at h f d))
    (congrArg₂ (· * ·) (mom_at A0 rcos a cw hA rcos_at h f d) (congrArg Neg.neg (mom_at A1 rsin b sw hB rsin_at h f d)))).trans ?_
  show _ * _ - _ * _ = _
  rw [← EReal.coe_neg, ← EReal.coe_neg, ← EReal.coe_mul, ← EReal.coe_mul, ← EReal.coe_sub]
  congr 1
  unfold IM CT Cert.KernelIdeal.Gen.ST
  ring

theorem corr_at (h : Fin 12) (d : Fin 64) (n : Fin 2048) :
    corr A0 A1 (ix4 0 h d n) = ((lag (fun n => a h n d) (fun n => b h n d) n : ℝ) : EReal) := by
  unfold corr
  rw [transpose_apply _ _ _ (ix4 0 h d n) (ix4 0 h n d) (by
    intro b; match b with | ⟨0, _⟩ => rfl | ⟨1, _⟩ => rfl | ⟨2, _⟩ => rfl | ⟨3, _⟩ => rfl)]
  refine (congrArg₂ Ideal.div (congrArg₂ (· - ·)
    (syn_at (rre A0 A1) rcos (fun h f d => RE (fun n _ => a h n d) (fun n _ => b h n d) f 0) cw (rre_at A0 A1 a b hA hB) rcos_at h n d)
    (syn_at (rim A0 A1) rsin (fun h f d => IM (fun n _ => a h n d) (fun n _ => b h n d) f 0) sw (rim_at A0 A1 a b hA hB) rsin_at h n d))
    word_2048).trans ?_
  rw [Ideal.div_coe (by norm_num)]
  show (_ - _) * _ = _
  rw [← EReal.coe_sub, ← EReal.coe_mul]
  unfold lag
  rw [KC_eq, mul_one_div]

end

end Cert.ReferenceIdeal.Plain

end
-- ==== Proof.Val.RefOut.lean ====
/- The reference's sort, weights and result, on real arguments. -/
module

public import proofs.«01_k».proof.Proof.Val.RefCorr
public import proofs.«01_k».proof.Proof.Val.Column

@[expose] public section

set_option maxRecDepth 16384

noncomputable section

namespace Cert.ReferenceIdeal.Plain

open Cert.ReferenceIdeal Cert.ReferenceIdeal.Gen Idealize.ShloMosaic Idealize.ShloMosaic.TcCoe
open Idealize.ShloMosaic.ValueIdx
open Cert.KernelIdeal.Gen (coe_sum word_bot sel_eq)
open Cert.Column

theorem word_zero : Ideal.ofBits .f32 0x00000000#32 = 0 := by
  simp [Ideal.ofBits, Ideal.ieee]

/-! ## The sort -/

/-- The order in which the sort reads a column. -/
def readBy (C : FVec Ideal S1x12x64x2048 .f32) (h : Fin 12) (d : Fin 64) (k k' : Fin 2048) : Bool :=
  FloatOps.cmpfTotal (F := Ideal) (φ := .f32) .gt (C (ix4 0 h d k)) (C (ix4 0 h d k')) == 1#1

theorem along_at (h : Fin 12) (d : Fin 64) (n k : Fin 2048) :
    (ix4 (0 : Fin 1) h d n : S1x12x64x2048.Idx).along (3 : Fin 4) k = ix4 0 h d k := by
  funext b
  match b with
  | ⟨0, _⟩ => rfl
  | ⟨1, _⟩ => rfl
  | ⟨2, _⟩ => rfl
  | ⟨3, _⟩ => rfl

theorem tops_at (C : FVec Ideal S1x12x64x2048 .f32) (h : Fin 12) (d : Fin 64) (n : Fin 2048) :
    (tops C).1 (ix4 0 h d n) = C (ix4 0 h d (sortedFrom (readBy C h d) n))
      ∧ (tops C).2 (ix4 0 h d n) = BitVec.ofNat 32 (sortedFrom (readBy C h d) n).val := by
  have hR : (fun k k' : Fin 2048 => FloatOps.cmpfTotal (F := Ideal) (φ := .f32) .gt (C ((ix4 (0 : Fin 1) h d n : S1x12x64x2048.Idx).along (3 : Fin 4) k))
      (C ((ix4 (0 : Fin 1) h d n : S1x12x64x2048.Idx).along (3 : Fin 4) k')) == 1#1) = readBy C h d := by
    funext k k'
    rw [along_at, along_at]
    rfl
  have hz : ∀ b, (ix4 (0 : Fin 1) h d n : S1x12x64x2048.Idx) b = (ix4 (0 : Fin 1) h d n : S1x12x64x2048.Idx) b := fun _ => rfl
  constructor
  · unfold tops Host.topK
    dsimp only
    refine (extractStridedSlice_apply _ _ _ (ix4 (0 : Fin 1) h d n) (ix4 (0 : Fin 1) h d n) (fun b => by
      match b with
      | ⟨0, _⟩ => exact (Nat.zero_add _).symm
      | ⟨1, _⟩ => exact (Nat.zero_add _).symm
      | ⟨2, _⟩ => exact (Nat.zero_add _).symm
      | ⟨3, _⟩ => exact (Nat.zero_add _).symm)).trans ?_
    unfold Host.sort2
    rw [dif_pos (show 3 < S1x12x64x2048.rank by decide)]
    refine congrArg C ((along_at h d n _).trans ?_)
    exact congrArg (fun R => ix4 0 h d (sortedFrom R n)) hR
  · unfold tops Host.topK
    dsimp only
    refine (extractStridedSlice_apply _ _ _ (ix4 (0 : Fin 1) h d n) (ix4 (0 : Fin 1) h d n) (fun b => by
      match b with
      | ⟨0, _⟩ => exact (Nat.zero_add _).symm
      | ⟨1, _⟩ => exact (Nat.zero_add _).symm
      | ⟨2, _⟩ => exact (Nat.zero_add _).symm
      | ⟨3, _⟩ => exact (Nat.zero_add _).symm)).trans ?_
    unfold Host.sort2
    rw [dif_pos (show 3 < S1x12x64x2048.rank by decide)]
    dsimp only
    rw [dif_pos (show 3 < S1x12x64x2048.rank by decide)]
    refine (congrArg (iotaInDim S1x12x64x2048 32 3) (along_at h d n _)).trans ?_
    exact congrArg (fun R => BitVec.ofNat 32 (sortedFrom R n).val) hR

/-- The sort of real columns. -/
theorem sort_real (C : FVec Ideal S1x12x64x2048 .f32) (c : Fin 12 → Fin 64 → Fin 2048 → ℝ)
    (hC : ∀ h d n, C (ix4 0 h d n) = (c h d n : EReal)) :
    ∃ π : Fin 12 → Fin 64 → Equiv.Perm (Fin 2048), (∀ h d, Antitone fun n => c h d (π h d n))
      ∧ (∀ h n d, vals C (ix4 0 h n d) = ((c h d (π h d n) : ℝ) : EReal))
      ∧ (∀ h n d, inds C (ix4 0 h n d) = BitVec.ofNat 32 (π h d n).val) := by
  have hh : ∀ h d, ∃ π : Equiv.Perm (Fin 2048), (∀ i, π i = sortedFrom (readBy C h d) i) ∧ Antitone fun i => c h d (π i) := by
    intro h d
    refine order_desc (c h d) (readBy C h d) fun a b => ?_
    have e : FloatOps.cmpfTotal (F := Ideal) (φ := .f32) .gt (C (ix4 0 h d a)) (C (ix4 0 h d b)) = BitVec.ofBool (decide (C (ix4 0 h d b) < C (ix4 0 h d a))) := rfl
    unfold readBy
    rw [e, hC, hC]
    by_cases hlt : c h d b < c h d a
    · simp [hlt]
    · simp [hlt]
  choose π h1 h2 using hh
  refine ⟨π, h2, fun h n d => ?_, fun h n d => ?_⟩
  · unfold vals
    rw [transpose_apply _ _ _ (ix4 0 h n d) (ix4 0 h d n) (by
      intro b; match b with | ⟨0, _⟩ => rfl | ⟨1, _⟩ => rfl | ⟨2, _⟩ => rfl | ⟨3, _⟩ => rfl)]
    rw [(tops_at C h d n).1, hC, h1]
  · unfold inds
    rw [transpose_apply _ _ _ (ix4 0 h n d) (ix4 0 h d n) (by
      intro b; match b with | ⟨0, _⟩ => rfl | ⟨1, _⟩ => rfl | ⟨2, _⟩ => rfl | ⟨3, _⟩ => rfl)]
    rw [(tops_at C h d n).2, h1]

/-! ## The weights -/

theorem red2 : S1x12x2048x64.Reduces [2] S1x12x64 := by decide

theorem lift2 (h : Fin 12) (n : Fin 2048) (d : Fin 64) : red2.lift (ix3 0 h d) n = ix4 0 h n d := by
  funext b
  match b with
  | ⟨0, _⟩ => rfl
  | ⟨1, _⟩ => rfl
  | ⟨2, _⟩ => rfl
  | ⟨3, _⟩ => rfl

theorem spread_at (v : FVec Ideal S1x12x64 .f32) (h : Fin 12) (n : Fin 2048) (d : Fin 64) :
    spread v (ix4 0 h n d) = v (ix3 0 h d) := by
  unfold spread
  rw [broadcastInDim_apply _ _ _ (ix4 0 h n d) (ix4 (0 : Fin 1) h (0 : Fin 1) d) (by
    intro b; match b with | ⟨0, _⟩ => rfl | ⟨1, _⟩ => rfl | ⟨2, _⟩ => rfl | ⟨3, _⟩ => rfl)]
  rw [broadcastInDim_apply _ _ _ (ix4 (0 : Fin 1) h (0 : Fin 1) d) (ix3 (0 : Fin 1) h d) (by
    intro b; match b with | ⟨0, _⟩ => rfl | ⟨1, _⟩ => rfl | ⟨2, _⟩ => rfl)]

section
variable (V : FVec Ideal S1x12x2048x64 .f32) (g : Fin 12 → Fin 2048 → Fin 64 → ℝ)
  (hV : ∀ h n d, V (ix4 0 h n d) = (g h n d : EReal))
include hV

theorem peak_at (h : Fin 12) (d : Fin 64) : peak V (ix3 0 h d) = ((top (fun n => g h n d) : ℝ) : EReal) := by
  have e2 : Host.reduce (FloatOps.maximumf (F := Ideal) (φ := .f32)) V (constant S_ .f32 0xFF800000#32) reducesTo_S1x12x2048x64_S1x12x64_d2 h_S_ (ix3 0 h d)
      = ((top (fun n => g h n d) : ℝ) : EReal) := by
    refine (Host.reduce_eq_fold_single (a := 2) (FloatOps.maximumf (F := Ideal) (φ := .f32)) V _ reducesTo_S1x12x2048x64_S1x12x64_d2 red2 h_S_ (ix3 0 h d)).trans ?_
    have e : (constant (F := Ideal) S_ .f32 0xFF800000#32 (Shape.Idx.first h_S_)) = ⊥ := word_bot
    rw [e]
    refine fold_top (fun n => g h n d) _ fun n => ?_
    exact (congrArg V (lift2 h n d)).trans (hV h n d)
  refine (congrArg₂ max word_bot e2).trans ?_
  exact max_eq_right bot_le

theorem expo_at (h : Fin 12) (n : Fin 2048) (d : Fin 64) :
    expo V (ix4 0 h n d) = Ideal.exp (((g h n d : ℝ) : EReal) - ((top (fun n => g h n d) : ℝ) : EReal)) := by
  refine congrArg Ideal.exp (congrArg₂ (· - ·) (hV h n d) ?_)
  exact (spread_at _ h n d).trans (peak_at V g hV h d)

theorem soft_at (h : Fin 12) (n : Fin 2048) (d : Fin 64) : soft V (ix4 0 h n d) = ((wt (fun n => g h n d) n : ℝ) : EReal) := by
  refine Eq.trans ?_ (div_wt (fun n => g h n d) n)
  refine congrArg₂ Ideal.div (expo_at V g hV h n d) ((spread_at _ h n d).trans ?_)
  simp only [Host.reduceAdd]
  refine (Ideal.hostReduceAdd_single (a := 2) reducesTo_S1x12x2048x64_S1x12x64_d2 red2 (expo V) _ (ix3 0 h d)).trans ?_
  have e : (constant (F := Ideal) S_ .f32 0x00000000#32 (Shape.Idx.first h_S_)) = 0 := word_zero
  rw [e, zero_add]
  unfold mass
  rw [coe_sum]
  refine Finset.sum_congr rfl fun k _ => ?_
  refine (congrArg (expo V) (lift2 h k d)).trans ((expo_at V g hV h k d).trans ?_)
  rw [← EReal.coe_sub]
  rfl

end

/-! ## The values read -/

theorem rep_at (A2 : Arg) (i : S1x12x2048x64x64.Idx) (h : Fin 12) (d e : Fin 64) (h1 : (i 1).val = h.val) (h3 : (i 3).val = d.val) (h4 : (i 4).val = e.val) :
    rep A2 i = A2 (ix4 0 h ⟨d.val, by omega⟩ e) := by
  unfold rep
  rw [broadcastInDim_apply _ _ _ i (ix5 (0 : Fin 1) h (0 : Fin 1) d e) (by
    intro b
    match b with
    | ⟨0, _⟩ => rfl
    | ⟨1, _⟩ => exact h1.symm
    | ⟨2, _⟩ => rfl
    | ⟨3, _⟩ => exact h3.symm
    | ⟨4, _⟩ => exact h4.symm)]
  rw [broadcastInDim_apply _ _ _ (ix5 (0 : Fin 1) h (0 : Fin 1) d e) (ix4 (0 : Fin 1) h d e) (by
    intro b; match b with | ⟨0, _⟩ => rfl | ⟨1, _⟩ => rfl | ⟨2, _⟩ => rfl | ⟨3, _⟩ => rfl)]
  refine extractStridedSlice_apply _ _ _ _ _ fun b => ?_
  match b with
  | ⟨0, _⟩ => rfl
  | ⟨1, _⟩ => exact (Nat.zero_add _).symm
  | ⟨2, _⟩ => exact (Nat.zero_add _).symm
  | ⟨3, _⟩ => exact (Nat.zero_add _).symm

local notation "𝔾" => gather_S1x12x2048x64x64_S12x2048x64x1_S1x12x2048x64x64_04_2_13_02_2_3_111164

theorem gather_at (A2 : Arg) (P : IVec S12x2048x64x1 32) (h : Fin 12) (n : Fin 2048) (d e : Fin 64) :
    Host.gather 𝔾 (rep A2) P (ix5 0 h n d e) = A2 (ix4 0 h ⟨d.val, by omega⟩ e) := by
  unfold Host.gather
  refine rep_at A2 _ h d e ?_ ?_ ?_
  · show (𝔾).start (ix5 0 h n d e) P 1 + (𝔾).batchCoord (ix5 0 h n d e) 1 + (𝔾).offCoord (ix5 0 h n d e) 1 = _
    rw [GatherDims.start_batching _ _ _ _ (by decide),
      GatherDims.offCoord_eq_zero _ _ _ (fun hm => ((GatherDims.mem_sKept _ _).mp hm).2 (by decide))]
    simp only [Nat.zero_add, Nat.add_zero]
    unfold GatherDims.batchCoord
    rw [dif_pos (by decide)]
    rfl
  · show (𝔾).start (ix5 0 h n d e) P 3 + (𝔾).batchCoord (ix5 0 h n d e) 3 + (𝔾).offCoord (ix5 0 h n d e) 3 = _
    rw [GatherDims.start_batching _ _ _ _ (by decide),
      GatherDims.offCoord_eq_zero _ _ _ (fun hm => ((GatherDims.mem_sKept _ _).mp hm).2 (by decide))]
    simp only [Nat.zero_add, Nat.add_zero]
    unfold GatherDims.batchCoord
    rw [dif_pos (by decide)]
    rfl
  · show (𝔾).start (ix5 0 h n d e) P 4 + (𝔾).batchCoord (ix5 0 h n d e) 4 + (𝔾).offCoord (ix5 0 h n d e) 4 = _
    have hs : (𝔾).start (ix5 0 h n d e) P 4 = 0 := by
      unfold GatherDims.start
      rw [dif_neg (by decide)]
    rw [hs, GatherDims.batchCoord_eq_zero _ _ _ (by decide)]
    simp only [Nat.zero_add, Nat.add_zero]
    unfold GatherDims.offCoord
    rw [dif_pos (by decide)]
    rfl

theorem fold_one {ι : Type} (s : Finset ι) (g : ι → BitVec 1) (hg : ∀ k, g k = 1#1) : s.fold IntOp.andi 1#1 g = 1#1 := by
  classical
  induction s using Finset.induction_on with
  | empty => rfl
  | insert a s ha ih => rw [Finset.fold_insert ha, ih, hg]; rfl

theorem red3 : S12x2048x64x1.Reduces [3] S12x2048x64 := by decide

theorem word_in (k : Fin 2048) :
    IntOp.cmpi .slt (BitVec.ofNat 32 k.val) 0#32 = 0#1
      ∧ IntOp.cmpi .sge (BitVec.ofNat 32 k.val) 0#32 = 1#1 ∧ IntOp.cmpi .sle (BitVec.ofNat 32 k.val) 2047#32 = 1#1 := by
  have t : (BitVec.ofNat 32 k.val).toNat = k.val := by
    rw [BitVec.toNat_ofNat, Nat.mod_eq_of_lt (by omega)]
  have ti : (BitVec.ofNat 32 k.val).toInt = k.val := by
    rw [BitVec.toInt_eq_toNat_of_lt (by rw [t]; omega), t]
  refine ⟨?_, ?_, ?_⟩
  · show BitVec.ofBool (BitVec.slt _ _) = _
    have : ¬ ((k.val : ℤ) < 0) := by omega
    rw [BitVec.slt, ti]; simp [this]
  · show BitVec.ofBool (BitVec.sle _ _) = _
    rw [BitVec.sle, ti]; simp
  · show BitVec.ofBool (BitVec.sle _ _) = _
    rw [BitVec.sle, ti]
    have : (2047#32).toInt = 2047 := by decide
    rw [this]
    have : ((k.val : ℤ) ≤ 2047) := by omega
    simp [this]

section
variable (J : IVec S1x12x2048x64 32) (π : Fin 12 → Fin 2048 → Fin 64 → Fin 2048)
  (hJ : ∀ h n d, J (ix4 0 h n d) = BitVec.ofNat 32 (π h n d).val)
include hJ

theorem plc_at (h : Fin 12) (n : Fin 2048) (d : Fin 64) : plc J (ix4 h n d 0) = BitVec.ofNat 32 (π h n d).val := by
  unfold plc
  rw [shapeCast_apply _ _ (ix4 h n d 0) (ix5 (0 : Fin 1) h n d (0 : Fin 1)) (by
    rw [Shape.rowMajor_val_five, Shape.rowMajor_val_four]
    show ((((0 * 12 + h.val) * 2048 + n.val) * 64 + d.val) * 1 + 0) = ((h.val * 2048 + n.val) * 64 + d.val) * 1 + 0
    omega)]
  have hb : broadcastInDim S1x12x2048x64x1 ![0, 1, 2, 3] bcast_S1x12x2048x64_S1x12x2048x64x1_0_1_2_3 J (ix5 (0 : Fin 1) h n d (0 : Fin 1)) = BitVec.ofNat 32 (π h n d).val := by
    rw [broadcastInDim_apply _ _ _ (ix5 (0 : Fin 1) h n d (0 : Fin 1)) (ix4 (0 : Fin 1) h n d) (by
      intro b; match b with | ⟨0, _⟩ => rfl | ⟨1, _⟩ => rfl | ⟨2, _⟩ => rfl | ⟨3, _⟩ => rfl), hJ]
  show Scalar.select (IntOp.cmpi .slt (broadcastInDim S1x12x2048x64x1 ![0, 1, 2, 3] bcast_S1x12x2048x64_S1x12x2048x64x1_0_1_2_3 J (ix5 (0 : Fin 1) h n d (0 : Fin 1))) 0#32) _
    (broadcastInDim S1x12x2048x64x1 ![0, 1, 2, 3] bcast_S1x12x2048x64_S1x12x2048x64x1_0_1_2_3 J (ix5 (0 : Fin 1) h n d (0 : Fin 1))) = _
  rw [hb, (word_in (π h n d)).1]
  rfl

theorem okay_at (h : Fin 12) (n : Fin 2048) (d : Fin 64) : okay (plc J) (ix3 h n d) = 1#1 := by
  unfold okay
  refine (Host.reduce_eq_fold_single (a := 3) IntOp.andi _ _ reducesTo_S12x2048x64x1_S12x2048x64_d3 red3 h_S_ (ix3 h n d)).trans ?_
  refine fold_one _ _ fun k => ?_
  have e : red3.lift (ix3 h n d) k = ix4 h n d 0 := by
    funext b
    match b with
    | ⟨0, _⟩ => rfl
    | ⟨1, _⟩ => rfl
    | ⟨2, _⟩ => rfl
    | ⟨3, _⟩ => exact Subsingleton.elim (α := Fin 1) _ _
  show IntOp.andi (IntOp.cmpi .sge (plc J (red3.lift (ix3 h n d) k)) 0#32) (IntOp.cmpi .sle (plc J (red3.lift (ix3 h n d) k)) 2047#32) = 1#1
  rw [e, plc_at J π hJ, (word_in (π h n d)).2.1, (word_in (π h n d)).2.2]
  rfl

theorem taken_at (A2 : Arg) (h : Fin 12) (n : Fin 2048) (d e : Fin 64) :
    taken A2 (plc J) (ix5 0 h n d e) = A2 (ix4 0 h ⟨d.val, by omega⟩ e) := by
  have hb : broadcastInDim S1x12x2048x64x64 ![1, 2, 3] bcast_S12x2048x64_S1x12x2048x64x64_1_2_3 (okay (plc J)) (ix5 (0 : Fin 1) h n d e) = 1#1 := by
    rw [broadcastInDim_apply _ _ _ (ix5 (0 : Fin 1) h n d e) (ix3 h n d) (by
      intro b; match b with | ⟨0, _⟩ => rfl | ⟨1, _⟩ => rfl | ⟨2, _⟩ => rfl), okay_at J π hJ]
  unfold taken
  rw [select_apply, hb, sel_eq True 1#1 (iff_true_intro rfl), if_pos trivial]
  exact gather_at A2 (plc J) h n d e

end

theorem red53 : S1x12x2048x64x64.Reduces [3] S1x12x2048x64 := by decide

theorem mix_at (W : FVec Ideal S1x12x2048x64 .f32) (G : FVec Ideal S1x12x2048x64x64 .f32) (w : Fin 12 → Fin 2048 → Fin 64 → ℝ)
    (v : Fin 12 → Fin 64 → Fin 64 → ℝ) (hW : ∀ h n d, W (ix4 0 h n d) = (w h n d : EReal)) (hG : ∀ h n d e, G (ix5 0 h n d e) = (v h d e : EReal))
    (h : Fin 12) (n : Fin 2048) (e : Fin 64) : mix W G (ix4 0 h n e) = ((∑ d : Fin 64, w h n d * v h d e : ℝ) : EReal) := by
  unfold mix
  simp only [Host.reduceAdd]
  refine (Ideal.hostReduceAdd_single (a := 3) reducesTo_S1x12x2048x64x64_S1x12x2048x64_d3 red53 _ _ (ix4 0 h n e)).trans ?_
  have e0 : (constant (F := Ideal) S_ .f32 0x00000000#32 (Shape.Idx.first h_S_)) = 0 := word_zero
  rw [e0, zero_add, coe_sum]
  refine Finset.sum_congr rfl fun (d : Fin 64) _ => ?_
  have e1 : red53.lift (ix4 0 h n e) d = ix5 0 h n d e := by
    funext b
    match b with
    | ⟨0, _⟩ => rfl
    | ⟨1, _⟩ => rfl
    | ⟨2, _⟩ => rfl
    | ⟨3, _⟩ => rfl
    | ⟨4, _⟩ => rfl
  refine (congrArg _ e1).trans ?_
  refine (congrArg₂ (· * ·) ?_ (hG h n d e)).trans (EReal.coe_mul _ _).symm
  rw [broadcastInDim_apply _ _ _ (ix5 (0 : Fin 1) h n d e) (ix5 (0 : Fin 1) h n d (0 : Fin 1)) (by
    intro b; match b with | ⟨0, _⟩ => rfl | ⟨1, _⟩ => rfl | ⟨2, _⟩ => rfl | ⟨3, _⟩ => rfl | ⟨4, _⟩ => rfl)]
  rw [broadcastInDim_apply _ _ _ (ix5 (0 : Fin 1) h n d (0 : Fin 1)) (ix4 (0 : Fin 1) h n d) (by
    intro b; match b with | ⟨0, _⟩ => rfl | ⟨1, _⟩ => rfl | ⟨2, _⟩ => rfl | ⟨3, _⟩ => rfl), hW]

/-- The reference's result on real arguments: some descending rearrangement of each column of correlations, its
    softmax weights, and the weighted sum of the first 64 rows of the values. -/
theorem whole_at (A0 A1 A2 : Arg) (a b : Fin 12 → Fin 2048 → Fin 64 → ℝ) (v : Fin 12 → Fin 64 → Fin 64 → ℝ)
    (hA : ∀ h n d, A0 (ix4 0 h n d) = (a h n d : EReal)) (hB : ∀ h n d, A1 (ix4 0 h n d) = (b h n d : EReal))
    (hv : ∀ h (d e : Fin 64), A2 (ix4 0 h ⟨d.val, by omega⟩ e) = (v h d e : EReal)) :
    ∃ g : Fin 12 → Fin 2048 → Fin 64 → ℝ, (∀ h d, Antitone fun n => g h n d)
      ∧ (∀ h d, ∃ π : Equiv.Perm (Fin 2048), ∀ n, g h n d = lag (fun n => a h n d) (fun n => b h n d) (π n))
      ∧ ∀ h n e, whole A0 A1 A2 (ix4 0 h n e) = ((∑ d : Fin 64, wt (fun n => g h n d) n * v h d e : ℝ) : EReal) := by
  obtain ⟨π, h1, h2, h3⟩ := sort_real (corr A0 A1) (fun h d n => lag (fun n => a h n d) (fun n => b h n d) n) (corr_at A0 A1 a b hA hB)
  refine ⟨fun h n d => lag (fun n => a h n d) (fun n => b h n d) (π h d n), h1, fun h d => ⟨π h d, fun n => rfl⟩, fun h n e => ?_⟩
  unfold whole
  refine mix_at _ _ (fun h n d => wt (fun n => lag (fun n => a h n d) (fun n => b h n d) (π h d n)) n) v
    (soft_at _ (fun h n d => lag (fun n => a h n d) (fun n => b h n d) (π h d n)) h2)
    (fun h n d e => (taken_at _ (fun h n d => π h d n) h3 A2 h n d e).trans (hv h d e)) h n e

end Cert.ReferenceIdeal.Plain

end
-- ==== Proof.Val.Match.lean ====
/- The kernel's result and the reference's, entry by entry, on real arguments. -/
module

public import proofs.«01_k».proof.Proof.Val.Place
public import proofs.«01_k».proof.Proof.Val.RefOut

@[expose] public section

set_option maxRecDepth 16384

noncomputable section

namespace Cert.KernelIdeal.Gen

open Idealize.ShloMosaic Idealize.ShloMosaic.TcCoe
open Idealize.ShloMosaic.ValueIdx
open Cert.Column
open Cert.ReferenceIdeal.Plain (whole whole_at lag)

/-- The head and the feature of a block's column. -/
def chd (t : Fin cfg0.N) (j : Fin 256) : Fin 12 := ahead t ⟨j.val / 64, by omega⟩
def cft (j : Fin 256) : Fin 64 := ⟨j.val % 64, Nat.mod_lt _ (by decide)⟩

theorem chd_mk (t : Fin cfg0.N) (h : Fin 4) (d : Fin 64) (hj) : chd t ⟨64 * h.val + d.val, hj⟩ = ahead t h :=
  Fin.ext (by show 4 * t.val + (64 * h.val + d.val) / 64 = 4 * t.val + h.val; omega)
theorem cft_mk (h : Fin 4) (d : Fin 64) (hj) : cft ⟨64 * h.val + d.val, hj⟩ = d :=
  Fin.ext (by show (64 * h.val + d.val) % 64 = d.val; omega)
theorem acol_val (t : Fin cfg0.N) (j : Fin 256) : (acol t j).val = 64 * (chd t j).val + (cft j).val := by
  show 256 * t.val + j.val = 64 * (4 * t.val + j.val / 64) + j.val % 64; omega

section
variable (m : (ℓ : Loc nD τ sig) → Buf (Elt Ideal) ℓ) (c : Dev nD)
  (a b : Fin 12 → Fin 2048 → Fin 64 → ℝ) (v : Fin 12 → Fin 64 → Fin 64 → ℝ)
  (hA : ∀ h n d, (m ((c : Thread nD τ).loc main_arg0) : FVec Ideal S1x12x2048x64 .f32) (ix4 (0 : Fin 1) h n d) = (a h n d : EReal))
  (hB : ∀ h n d, (m ((c : Thread nD τ).loc main_arg1) : FVec Ideal S1x12x2048x64 .f32) (ix4 (0 : Fin 1) h n d) = (b h n d : EReal))
  (hv : ∀ h (d e : Fin 64), (m ((c : Thread nD τ).loc main_arg2) : FVec Ideal S1x12x2048x64 .f32)
    (ix4 (0 : Fin 1) h (⟨d.val, Nat.lt_of_lt_of_le d.isLt (by decide)⟩ : Fin 2048) e) = (v h d e : EReal))
  (g : Fin 12 → Fin 2048 → Fin 64 → ℝ) (hg : ∀ h d, Antitone fun n => g h n d)
  (hπ : ∀ h d, ∃ π : Equiv.Perm (Fin 2048), ∀ n, g h n d = lag (fun n => a h n d) (fun n => b h n d) (π n))
include hA hB hv hg hπ

/-- A block of the kernel's result. -/
theorem block_at (t : Fin cfg0.N) (n : Fin 2048) (h : Fin 4) (e : Fin 64) :
    outAt m c t (ix2 n ⟨64 * h.val + e.val, by omega⟩)
      = ((∑ d : Fin 64, wt (fun n => g (ahead t h) n d) n * v (ahead t h) d e : ℝ) : EReal) := by
  unfold outAt
  refine (outOf_at _ _ (fun n j => wt (fun n => g (chd t j) n (cft j)) n) (fun h d e => v (ahead t h) d e)
    (fun n j => ?_) (fun h d e => ?_) n h e).trans ?_
  · refine srtOf_at _ _ (fun n j => a (chd t j) n (cft j)) (fun n j => b (chd t j) n (cft j)) (fun n j => ?_) (fun n j => ?_)
      (fun n j => g (chd t j) n (cft j)) (fun j => hg _ _) (fun j => ?_) n j
    · exact (blk0_at m c t n j).trans ((pack_at _ (chd t j) n (cft j) _ (acol_val t j)).trans (hA _ _ _))
    · exact (blk1_at m c t n j).trans ((pack_at _ (chd t j) n (cft j) _ (acol_val t j)).trans (hB _ _ _))
    · exact hπ (chd t j) (cft j)
  · exact (blk2_at m c t h d e).trans ((head_at _ _ d e).trans (hv _ d e))
  · congr 1
    refine Finset.sum_congr rfl fun d _ => ?_
    rw [chd_mk, cft_mk]

/-- The kernel's result. -/
theorem out_at (h : Fin 12) (n : Fin 2048) (e : Fin 64) :
    unpack (res m c) (ix4 (0 : Fin 1) h n e) = ((∑ d : Fin 64, wt (fun n => g h n d) n * v h d e : ℝ) : EReal) := by
  have hh : 64 * h.val + e.val < 768 := by omega
  rw [unpack_at _ h n e ⟨64 * h.val + e.val, hh⟩ rfl]
  have e1 : bcol ⟨64 * h.val + e.val, hh⟩ = ⟨64 * (⟨h.val % 4, Nat.mod_lt _ (by decide)⟩ : Fin 4).val + e.val, by
      show 64 * (h.val % 4) + e.val < 256; omega⟩ :=
    Fin.ext (by show (64 * h.val + e.val) % 256 = 64 * (h.val % 4) + e.val; omega)
  have e2 : ahead (pt ⟨64 * h.val + e.val, hh⟩) ⟨h.val % 4, Nat.mod_lt _ (by decide)⟩ = h :=
    Fin.ext (by show 4 * ((64 * h.val + e.val) / 256) + h.val % 4 = h.val; omega)
  show outAt m c (pt ⟨64 * h.val + e.val, hh⟩) (ix2 n (bcol ⟨64 * h.val + e.val, hh⟩)) = _
  rw [e1]
  refine (block_at m c a b v hA hB hv g hg hπ _ n _ e).trans ?_
  rw [e2]

end

/-- On real arguments the two results are one array. -/
theorem result_eq (m : (ℓ : Loc nD τ sig) → Buf (Elt Ideal) ℓ) (c : Dev nD)
    (a b : Fin 12 → Fin 2048 → Fin 64 → ℝ) (v : Fin 12 → Fin 64 → Fin 64 → ℝ)
    (hA : ∀ h n d, (m ((c : Thread nD τ).loc main_arg0) : FVec Ideal S1x12x2048x64 .f32) (ix4 (0 : Fin 1) h n d) = (a h n d : EReal))
    (hB : ∀ h n d, (m ((c : Thread nD τ).loc main_arg1) : FVec Ideal S1x12x2048x64 .f32) (ix4 (0 : Fin 1) h n d) = (b h n d : EReal))
    (hv : ∀ h (d e : Fin 64), (m ((c : Thread nD τ).loc main_arg2) : FVec Ideal S1x12x2048x64 .f32)
      (ix4 (0 : Fin 1) h (⟨d.val, Nat.lt_of_lt_of_le d.isLt (by decide)⟩ : Fin 2048) e) = (v h d e : EReal)) :
    whole (m ((c : Thread nD τ).loc main_arg0)) (m ((c : Thread nD τ).loc main_arg1)) (m ((c : Thread nD τ).loc main_arg2))
      = unpack (res m c) := by
  obtain ⟨g, hg, hπ, hw⟩ := whole_at _ _ _ a b v hA hB hv
  funext i
  obtain ⟨z, h, n, e, rfl⟩ : ∃ (z : Fin 1) (h : Fin 12) (n : Fin 2048) (e : Fin 64), i = ix4 z h n e :=
    ⟨i 0, i 1, i 2, i 3, eq_ix4 i⟩
  obtain rfl : z = 0 := Subsingleton.elim _ _
  exact (hw h n e).trans (out_at m c a b v hA hB hv g hg hπ h n e).symm

end Cert.KernelIdeal.Gen

end
-- ==== Proof.lean ====
/- The claims about the kernel, put together from the modules beside this file. -/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.K.Run
public import proofs.«01_k».proof.Proof.KI.Run
public import proofs.«01_k».proof.Proof.Val.Finite
public import proofs.«01_k».proof.Proof.Val.Match
public import Idealize.ShloMosaic.Adequacy
public import Idealize.ShloMosaic.Init

@[expose] public section

noncomputable section

open Idealize.ShloMosaic Idealize.ShloMosaic.TcCoe

namespace Cert.Proof

theorem frame_kernel : Cert.quiescent_Kernel := fun m ρ _ =>
  (θ_run Cert.Kernel.defs _ _).mono (fun _ h => ⟨fun c => (h.1 c).2, h.2⟩) (Cert.Kernel.Gen.run_named (F := Bits) m ρ)

theorem frame_ideal : Cert.quiescent_KernelIdeal := fun m ρ _ =>
  (θ_run Cert.KernelIdeal.defs _ _).mono (fun _ h => ⟨fun c => (h.1 c).2, h.2⟩) (Cert.KernelIdeal.Gen.run_named (F := Ideal) m ρ)

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "two_pi_over_s" .f32 0x3B490FDB#32 ((Real.pi * 1024⁻¹ : ℝ) : EReal) rfl

theorem frame_ideal_finite : Cert.quiescent_KernelIdeal_pre_finite := fun m ρ _ => frame_ideal m ρ trivial

theorem frame_reference_finite : Cert.quiescent_ReferenceIdeal_pre_finite := fun m ρ _ => frame_reference m ρ trivial

/-- The kernel and the reference leave the same array. -/
theorem algebraic : Cert.algebraic_KernelIdeal_ReferenceIdeal_pre_finite := by
  intro m ρ m' ρ' hpre hagree
  refine ⟨fun c => Cert.KernelIdeal.Gen.unpack (Cert.KernelIdeal.Gen.res m c), ?_, ?_⟩
  · exact (θ_run Cert.KernelIdeal.defs _ _).mono
      (fun _ h c => ⟨(h.1 c).1.trans (Cert.KernelIdeal.Gen.tail_eq m c), (h.1 c).2⟩)
      (Cert.KernelIdeal.Gen.run_named (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Plain.res_eq m' c).trans ?_
    obtain ⟨h0, h1, h2⟩ := Cert.Pre_finite.reals _ _ _ (hpre c)
    rw [(hagree c).1, (hagree c).2.1, (hagree c).2.2]
    exact Cert.KernelIdeal.Gen.result_eq m c _ _ _ (fun h n d => h0 _) (fun h n d => h1 _) (fun h d e => h2 h d e)

theorem claim : Cert.Claim :=
  ⟨Cert.Kernel.Gen.facts, Cert.KernelIdeal.Gen.facts, Cert.ReferenceIdeal.Gen.facts, Cert.Pre_finite.facts, frame_kernel,
    frame_ideal, frame_ideal_finite, frame_reference, frame_reference_finite, preserves, algebraic⟩

end Cert.Proof

end
